-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_untied [hPre_finite_and_untied : Cert.Pre_finite_and_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_untied [hPre_finite_and_untied : Cert.Pre_finite_and_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_untied [hKernelIdeal : Cert.KernelIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_untied [hReferenceIdeal : Cert.ReferenceIdeal.Facts] [hPre_finite_and_untied : Cert.Pre_finite_and_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_untied [hKernelIdeal : Cert.KernelIdeal.Facts] [hReferenceIdeal : Cert.ReferenceIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_untied : Cert.Pre_finite_and_untied.Facts),
    quiescent_Kernel (hKernel := hKernel)
    ∧ quiescent_KernelIdeal (hKernelIdeal := hKernelIdeal)
    ∧ quiescent_KernelIdeal_pre_finite_and_untied (hKernelIdeal := hKernelIdeal) (hPre_finite_and_untied := hPre_finite_and_untied)
    ∧ quiescent_ReferenceIdeal (hReferenceIdeal := hReferenceIdeal)
    ∧ quiescent_ReferenceIdeal_pre_finite_and_untied (hReferenceIdeal := hReferenceIdeal) (hPre_finite_and_untied := hPre_finite_and_untied)
    ∧ preserves_Kernel_KernelIdeal
    ∧ algebraic_KernelIdeal_ReferenceIdeal_pre_finite_and_untied (hKernelIdeal := hKernelIdeal) (hReferenceIdeal := hReferenceIdeal) (hPre_finite_and_untied := hPre_finite_and_untied)
-- ==== Pre_finite_and_untied.lean ====
abbrev S8x16384x64 : Shape := ⟨3, ![8, 16384, 64]⟩
abbrev S8x16384x2 : Shape := ⟨3, ![8, 16384, 2]⟩
abbrev S2x512x64 : Shape := ⟨3, ![2, 512, 64]⟩
abbrev S131072x64 : Shape := ⟨2, ![131072, 64]⟩
abbrev S131072x512 : Shape := ⟨2, ![131072, 512]⟩
abbrev S1x512x64 : Shape := ⟨3, ![1, 512, 64]⟩
abbrev S512x64 : Shape := ⟨2, ![512, 64]⟩
abbrev S_ : Shape := ⟨0, ![]⟩
abbrev S131072 : Shape := ⟨1, ![131072]⟩
abbrev S131072x1 : Shape := ⟨2, ![131072, 1]⟩
abbrev S64x512 : Shape := ⟨2, ![64, 512]⟩
abbrev S512 : Shape := ⟨1, ![512]⟩
abbrev S1x512 : Shape := ⟨2, ![1, 512]⟩
abbrev S1 : Shape := ⟨1, ![1]⟩
abbrev S1x1 : Shape := ⟨2, ![1, 1]⟩

class Facts : Prop where
  shapeCasts_S8x16384x64_S131072x64 : S8x16384x64.ShapeCasts S131072x64
  slices_S2x512x64_S1x512x64_0_0_0 : S2x512x64.Slices ![0, 0, 0] S1x512x64
  shapeCasts_S1x512x64_S512x64 : S1x512x64.ShapeCasts S512x64
  reducesTo_S131072x64_S131072_d1 : S131072x64.ReducesTo [1] S131072
  h_S_ : 0 < S_.numel
  bcast_S131072_S131072x1_0 : S131072.BroadcastsInDim S131072x1 (![0] : Fin 1 → Fin S131072x1.rank)
  bcast_S_S131072x64 : S_.BroadcastsInDim S131072x64 (![] : Fin 0 → Fin S131072x64.rank)
  transposes_S512x64_S64x512_1_0 : S512x64.Transposes [1, 0] S64x512
  bcast_S131072x1_S131072x512_0_1 : S131072x1.BroadcastsInDim S131072x512 (![0, 1] : Fin 2 → Fin S131072x512.rank)
  reducesTo_S512x64_S512_d1 : S512x64.ReducesTo [1] S512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  reducesTo_S131072x512_S131072_d1 : S131072x512.ReducesTo [1] S131072
  bcast_S_S131072 : S_.BroadcastsInDim S131072 (![] : Fin 0 → Fin S131072.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  bcast_S131072_S131072x64_0 : S131072.BroadcastsInDim S131072x64 (![0] : Fin 1 → Fin S131072x64.rank)
  slices_S2x512x64_S1x512x64_1_0_0 : S2x512x64.Slices ![1, 0, 0] S1x512x64
  bcast_S_S8x16384x64 : S_.BroadcastsInDim S8x16384x64 (![] : Fin 0 → Fin S8x16384x64.rank)
  bcast_S_S2x512x64 : S_.BroadcastsInDim S2x512x64 (![] : Fin 0 → Fin S2x512x64.rank)
  dot_S131072x64_S64x512_S131072x512_1_0_0_1_n_n_wf : DotDims.WF S131072x64 S64x512 S131072x512 [1] [0] [0] [1] [] []
  gather_S512x64_S131072x1_S131072x64_1_0_n_n_0_1_164_wf : GatherDims.WF S512x64 S131072x1 S131072x64 [1] [0] [] [0] [] 1 ![1, 64]

variable [Facts]

variable {F : FTy → Type} [FloatOps F]
def dot_S131072x64_S64x512_S131072x512_1_0_0_1_n_n : DotDims S131072x64 S64x512 S131072x512 where
  lhsContracting := [1]
  rhsContracting := [0]
  lhsNonContracting := [0]
  rhsNonContracting := [1]
  lhsBatch := []
  rhsBatch := []
  wf := dot_S131072x64_S64x512_S131072x512_1_0_0_1_n_n_wf
def reducer_argmin_f32_i32 : F .f32 × BitVec 32 → F .f32 × BitVec 32 → F .f32 × BitVec 32 :=
  fun a b =>
    let v2 := FloatOps.cmpf .olt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S512x64_S131072x1_S131072x64_1_0_n_n_0_1_164 : GatherDims S512x64 S131072x1 S131072x64 where
  offsetDims := [1]
  collapsedSliceDims := [0]
  operandBatchingDims := []
  startIndicesBatchingDims := []
  startIndexMap := [0]
  indexVectorDim := 1
  sliceSizes := ![1, 64]
  wf := gather_S512x64_S131072x1_S131072x64_1_0_n_n_0_1_164_wf

def fn_argmin {F : FTy → Type} [FloatOps F] (arg0 : FVec F S131072x512 .f32) : IVec S131072 32 :=
  let v0 : IVec S131072x512 32 := iotaInDim S131072x512 32 1
  let cst : FVec F S_ .f32 := constant S_ .f32 0x7F800000#32
  let c : IVec S_ 32 := constantI S_ 32 0#32
  let v1_0 : FVec F S131072 .f32 := (fun x y u v j => (Host.argReduce reducer_argmin_f32_i32 x y u v reducesTo_S131072x512_S131072_d1 h_S_ j).1) arg0 v0 cst c
  let v1_1 : IVec S131072 32 := (fun x y u v j => (Host.argReduce reducer_argmin_f32_i32 x y u v reducesTo_S131072x512_S131072_d1 h_S_ j).2) arg0 v0 cst c
  v1_1

def fn_where {F : FTy → Type} [FloatOps F] (arg0 : IVec S131072 1) (arg1 : IVec S131072 32) (arg2 : IVec S131072 32) : IVec S131072 32 :=
  let v0 : IVec S131072 32 := select arg0 arg1 arg2
  v0

def fn_take {F : FTy → Type} [FloatOps F] (arg0 : FVec F S512x64 .f32) (arg1 : IVec S131072 32) : FVec F S131072x64 .f32 :=
  let c : IVec S_ 32 := constantI S_ 32 0#32
  let v0 : IVec S131072 32 := broadcastInDim S131072 ![] bcast_S_S131072 c
  let v1 : IVec S131072 1 := cmpi .slt arg1 v0
  let c_0 : IVec S_ 32 := constantI S_ 32 512#32
  let v2 : IVec S131072 32 := broadcastInDim S131072 ![] bcast_S_S131072 c_0
  let v3 : IVec S131072 32 := addi arg1 v2
  let v4 : IVec S131072 32 := fn_where (F := F) v1 v3 arg1
  let v5 : IVec S131072x1 32 := broadcastInDim S131072x1 ![0] bcast_S131072_S131072x1_0 v4
  let c_1 : IVec S1 32 := constantI S1 32 511#32
  let c_2 : IVec S_ 32 := constantI S_ 32 0#32
  let v6 : IVec S131072x1 32 := broadcastInDim S131072x1 ![] bcast_S_S131072x1 c_2
  let v7 : IVec S131072x1 1 := cmpi .sge v5 v6
  let v8 : IVec S1x1 32 := broadcastInDim S1x1 ![1] bcast_S1_S1x1_1 c_1
  let v9 : IVec S131072x1 32 := broadcastInDim S131072x1 ![0, 1] bcast_S1x1_S131072x1_0_1 v8
  let v10 : IVec S131072x1 1 := cmpi .sle v5 v9
  let v11 : IVec S131072x1 1 := andi v7 v10
  let c_3 : IVec S_ 1 := constantI S_ 1 1#1
  let v12 : IVec S131072 1 := (fun x v => Host.reduce IntOp.andi x v reducesTo_S131072x1_S131072_d1 h_S_) v11 c_3
  let v13 : FVec F S131072x64 .f32 := (fun x i => Host.gather gather_S512x64_S131072x1_S131072x64_1_0_n_n_0_1_164 x i) arg0 v5
  let v14 : IVec S131072x64 1 := broadcastInDim S131072x64 ![0] bcast_S131072_S131072x64_0 v12
  let cst : FVec F S_ .f32 := constant S_ .f32 0x7FC00000#32
  let v15 : FVec F S131072x64 .f32 := broadcastInDim S131072x64 ![] bcast_S_S131072x64 cst
  let v16 : FVec F S131072x64 .f32 := select v14 v13 v15
  v16

def fn_part2 {F : FTy → Type} [FloatOps F] (main_arg0 : FVec F S8x16384x64 .f32) (main_arg2 : FVec F S2x512x64 .f32) (main_v1 : IVec S131072x512 32) (main_v26 : IVec S131072x512 1) (main_v28 : FVec F S131072x64 .f32) (main_v30 : FVec F S512x64 .f32) (main_v39 : FVec F S131072x512 .f32) (main_v40 : FVec F S512x64 .f32) (main_cst_5 : FVec F S_ .f32) : IVec S8x16384x64 1 × IVec S2x512x64 1 × IVec S131072x512 1 × IVec S131072x512 1 :=
  let main_v41 : FVec F S512 .f32 := (fun x v => Host.reduceAdd x v reducesTo_S512x64_S512_d1 h_S_) main_v40 main_cst_5
  let main_v42 : FVec F S1x512 .f32 := broadcastInDim S1x512 ![1] bcast_S512_S1x512_1 main_v41
  let main_v43 : FVec F S131072x512 .f32 := broadcastInDim S131072x512 ![0, 1] bcast_S1x512_S131072x512_0_1 main_v42
  let main_v44 : FVec F S131072x512 .f32 := addf main_v39 main_v43
  let main_v45 : IVec S131072 32 := fn_argmin (F := F) main_v44
  let main_cst_6 : FVec F S_ .f32 := constant S_ .f32 0x7F800000#32
  let main_v46 : FVec F S131072 .f32 := (fun x v => Host.reduce FloatOps.minimumf x v reducesTo_S131072x512_S131072_d1 h_S_) main_v44 main_cst_6
  let main_v47 : FVec F S131072x1 .f32 := broadcastInDim S131072x1 ![0] bcast_S131072_S131072x1_0 main_v46
  let main_v48 : FVec F S131072x512 .f32 := broadcastInDim S131072x512 ![0, 1] bcast_S131072x1_S131072x512_0_1 main_v47
  let main_v49 : IVec S131072x512 1 := cmpf .ogt main_v44 main_v48
  let main_v50 : IVec S131072x1 32 := broadcastInDim S131072x1 ![0] bcast_S131072_S131072x1_0 main_v45
  let main_v51 : IVec S131072x512 32 := broadcastInDim S131072x512 ![0, 1] bcast_S131072x1_S131072x512_0_1 main_v50
  let main_v52 : IVec S131072x512 1 := cmpi .eq main_v1 main_v51
  let main_v53 : IVec S131072x512 1 := ori main_v49 main_v52
  let main_v54 : FVec F S131072x64 .f32 := fn_take (F := F) main_v30 main_v45
  let main_v55 : FVec F S131072x64 .f32 := subf main_v28 main_v54
  let main_v56 : FVec F S8x16384x64 .f32 := Host.absf main_arg0
  let main_cst_7 : FVec F S_ .f32 := constant S_ .f32 0x7F800000#32
  let main_v57 : FVec F S8x16384x64 .f32 := broadcastInDim S8x16384x64 ![] bcast_S_S8x16384x64 main_cst_7
  let main_v58 : IVec S8x16384x64 1 := cmpf .olt main_v56 main_v57
  let main_v59 : FVec F S2x512x64 .f32 := Host.absf main_arg2
  let main_cst_8 : FVec F S_ .f32 := constant S_ .f32 0x7F800000#32
  let main_v60 : FVec F S2x512x64 .f32 := broadcastInDim S2x512x64 ![] bcast_S_S2x512x64 main_cst_8
  let main_v61 : IVec S2x512x64 1 := cmpf .olt main_v59 main_v60
  (main_v58, main_v61, main_v26, main_v53)

def fn_part1 {F : FTy → Type} [FloatOps F] (main_arg0 : FVec F S8x16384x64 .f32) (main_arg2 : FVec F S2x512x64 .f32) (main_v0 : FVec F S131072x64 .f32) (main_v1 : IVec S131072x512 32) (main_v3 : FVec F S512x64 .f32) (main_v17 : FVec F S131072x512 .f32) (main_v18 : IVec S131072 32) (main_v19 : FVec F S131072 .f32) : IVec S8x16384x64 1 × IVec S2x512x64 1 × IVec S131072x512 1 × IVec S131072x512 1 :=
  let main_v20 : FVec F S131072x1 .f32 := broadcastInDim S131072x1 ![0] bcast_S131072_S131072x1_0 main_v19
  let main_v21 : FVec F S131072x512 .f32 := broadcastInDim S131072x512 ![0, 1] bcast_S131072x1_S131072x512_0_1 main_v20
  let main_v22 : IVec S131072x512 1 := cmpf .ogt main_v17 main_v21
  let main_v23 : IVec S131072x1 32 := broadcastInDim S131072x1 ![0] bcast_S131072_S131072x1_0 main_v18
  let main_v24 : IVec S131072x512 32 := broadcastInDim S131072x512 ![0, 1] bcast_S131072x1_S131072x512_0_1 main_v23
  let main_v25 : IVec S131072x512 1 := cmpi .eq main_v1 main_v24
  let main_v26 : IVec S131072x512 1 := ori main_v22 main_v25
  let main_v27 : FVec F S131072x64 .f32 := fn_take (F := F) main_v3 main_v18
  let main_v28 : FVec F S131072x64 .f32 := subf main_v0 main_v27
  let main_v29 : FVec F S1x512x64 .f32 := (extractStridedSlice S1x512x64 ![1, 0, 0] · slices_S2x512x64_S1x512x64_1_0_0) main_arg2
  let main_v30 : FVec F S512x64 .f32 := shapeCast S512x64 main_v29 shapeCasts_S1x512x64_S512x64
  let main_v31 : FVec F S131072x64 .f32 := mulf main_v28 main_v28
  let main_cst_3 : FVec F S_ .f32 := constant S_ .f32 0x00000000#32
  let main_v32 : FVec F S131072 .f32 := (fun x v => Host.reduceAdd x v reducesTo_S131072x64_S131072_d1 h_S_) main_v31 main_cst_3
  let main_v33 : FVec F S131072x1 .f32 := broadcastInDim S131072x1 ![0] bcast_S131072_S131072x1_0 main_v32
  let main_cst_4 : FVec F S_ .f32 := constant S_ .f32 0x40000000#32
  let main_v34 : FVec F S131072x64 .f32 := broadcastInDim S131072x64 ![] bcast_S_S131072x64 main_cst_4
  let main_v35 : FVec F S131072x64 .f32 := mulf main_v34 main_v28
  let main_v36 : FVec F S64x512 .f32 := (transpose S64x512 [1, 0] · transposes_S512x64_S64x512_1_0) main_v30
  let main_v37 : FVec F S131072x512 .f32 := (fun l r => Host.dotGeneral dot_S131072x64_S64x512_S131072x512_1_0_0_1_n_n none l r) main_v35 main_v36
  let main_v38 : FVec F S131072x512 .f32 := broadcastInDim S131072x512 ![0, 1] bcast_S131072x1_S131072x512_0_1 main_v33
  let main_v39 : FVec F S131072x512 .f32 := subf main_v38 main_v37
  let main_v40 : FVec F S512x64 .f32 := mulf main_v30 main_v30
  let main_cst_5 : FVec F S_ .f32 := constant S_ .f32 0x00000000#32
  fn_part2 (F := F) main_arg0 main_arg2 main_v1 main_v26 main_v28 main_v30 main_v39 main_v40 main_cst_5

def fn {F : FTy → Type} [FloatOps F] (main_arg0 : FVec F S8x16384x64 .f32) (main_arg1 : IVec S8x16384x2 32) (main_arg2 : FVec F S2x512x64 .f32) : IVec S8x16384x64 1 × IVec S2x512x64 1 × IVec S131072x512 1 × IVec S131072x512 1 :=
  let main_v0 : FVec F S131072x64 .f32 := shapeCast S131072x64 main_arg0 shapeCasts_S8x16384x64_S131072x64
  let main_v1 : IVec S131072x512 32 := iotaInDim S131072x512 32 1
  let main_v2 : FVec F S1x512x64 .f32 := (extractStridedSlice S1x512x64 ![0, 0, 0] · slices_S2x512x64_S1x512x64_0_0_0) main_arg2
  let main_v3 : FVec F S512x64 .f32 := shapeCast S512x64 main_v2 shapeCasts_S1x512x64_S512x64
  let main_v4 : FVec F S131072x64 .f32 := mulf main_v0 main_v0
  let main_cst : FVec F S_ .f32 := constant S_ .f32 0x00000000#32
  let main_v5 : FVec F S131072 .f32 := (fun x v => Host.reduceAdd x v reducesTo_S131072x64_S131072_d1 h_S_) main_v4 main_cst
  let main_v6 : FVec F S131072x1 .f32 := broadcastInDim S131072x1 ![0] bcast_S131072_S131072x1_0 main_v5
  let main_cst_0 : FVec F S_ .f32 := constant S_ .f32 0x40000000#32
  let main_v7 : FVec F S131072x64 .f32 := broadcastInDim S131072x64 ![] bcast_S_S131072x64 main_cst_0
  let main_v8 : FVec F S131072x64 .f32 := mulf main_v7 main_v0
  let main_v9 : FVec F S64x512 .f32 := (transpose S64x512 [1, 0] · transposes_S512x64_S64x512_1_0) main_v3
  let main_v10 : FVec F S131072x512 .f32 := (fun l r => Host.dotGeneral dot_S131072x64_S64x512_S131072x512_1_0_0_1_n_n none l r) main_v8 main_v9
  let main_v11 : FVec F S131072x512 .f32 := broadcastInDim S131072x512 ![0, 1] bcast_S131072x1_S131072x512_0_1 main_v6
  let main_v12 : FVec F S131072x512 .f32 := subf main_v11 main_v10
  let main_v13 : FVec F S512x64 .f32 := mulf main_v3 main_v3
  let main_cst_1 : FVec F S_ .f32 := constant S_ .f32 0x00000000#32
  let main_v14 : FVec F S512 .f32 := (fun x v => Host.reduceAdd x v reducesTo_S512x64_S512_d1 h_S_) main_v13 main_cst_1
  let main_v15 : FVec F S1x512 .f32 := broadcastInDim S1x512 ![1] bcast_S512_S1x512_1 main_v14
  let main_v16 : FVec F S131072x512 .f32 := broadcastInDim S131072x512 ![0, 1] bcast_S1x512_S131072x512_0_1 main_v15
  let main_v17 : FVec F S131072x512 .f32 := addf main_v12 main_v16
  let main_v18 : IVec S131072 32 := fn_argmin (F := F) main_v17
  let main_cst_2 : FVec F S_ .f32 := constant S_ .f32 0x7F800000#32
  let main_v19 : FVec F S131072 .f32 := (fun x v => Host.reduce FloatOps.minimumf x v reducesTo_S131072x512_S131072_d1 h_S_) main_v17 main_cst_2
  fn_part1 (F := F) main_arg0 main_arg2 main_v0 main_v1 main_v3 main_v17 main_v18 main_v19
-- ==== Kernel.lean ====
abbrev S8x16384x64 : Shape := ⟨3, ![8, 16384, 64]⟩
abbrev S8x16384x2 : Shape := ⟨3, ![8, 16384, 2]⟩
abbrev S2x512x64 : Shape := ⟨3, ![2, 512, 64]⟩
abbrev S131072x64 : Shape := ⟨2, ![131072, 64]⟩
abbrev S2x1x512 : Shape := ⟨3, ![2, 1, 512]⟩
abbrev S2x512x128 : Shape := ⟨3, ![2, 512, 128]⟩
abbrev S1x512x64 : Shape := ⟨3, ![1, 512, 64]⟩
abbrev S512x64 : Shape := ⟨2, ![512, 64]⟩
abbrev S512 : Shape := ⟨1, ![512]⟩
abbrev S1x512 : Shape := ⟨2, ![1, 512]⟩
abbrev S1x1x512 : Shape := ⟨3, ![1, 1, 512]⟩
abbrev S512x128 : Shape := ⟨2, ![512, 128]⟩
abbrev S1x512x128 : Shape := ⟨3, ![1, 512, 128]⟩
abbrev S1x1 : Shape := ⟨2, ![1, 1]⟩
abbrev S8192x64 : Shape := ⟨2, ![8192, 64]⟩
abbrev S8192 : Shape := ⟨1, ![8192]⟩
abbrev S8192x1 : Shape := ⟨2, ![8192, 1]⟩
abbrev S8192x512 : Shape := ⟨2, ![8192, 512]⟩
abbrev S8192x128 : Shape := ⟨2, ![8192, 128]⟩
abbrev S1x8192x1 : Shape := ⟨3, ![1, 8192, 1]⟩
abbrev S1 : Shape := ⟨1, ![1]⟩
abbrev S1x1x1 : Shape := ⟨3, ![1, 1, 1]⟩
abbrev S_ : Shape := ⟨0, ![]⟩

abbrev nBuf : Space → Nat
  | .hbm => 11
  | .vmem => 12
  | .smem => 0
  | _ => 0

abbrev bufTy : (tb : Table) → Fin (tcTables nBuf tb) → BufTy
  | .hbm, ⟨0, _⟩ => ⟨S8x16384x64, .f32⟩
  | .hbm, ⟨1, _⟩ => ⟨S8x16384x2, .i32⟩
  | .hbm, ⟨2, _⟩ => ⟨S2x512x64, .f32⟩
  | .hbm, ⟨3, _⟩ => ⟨S131072x64, .f32⟩
  | .hbm, ⟨4, _⟩ => ⟨S2x1x512, .f32⟩
  | .hbm, ⟨5, _⟩ => ⟨S2x512x64, .f32⟩
  | .hbm, ⟨6, _⟩ => ⟨S2x512x128, .bf16⟩
  | .hbm, ⟨7, _⟩ => ⟨S131072x64, .f32⟩
  | .hbm, ⟨8, _⟩ => ⟨S1x1, .f32⟩
  | .hbm, ⟨9, _⟩ => ⟨S8x16384x64, .f32⟩
  | .hbm, ⟨10, _⟩ => ⟨S_, .f32⟩
  | .local _ .vmem, ⟨0, _⟩ => ⟨S2x512x64, .f32⟩
  | .local _ .vmem, ⟨1, _⟩ => ⟨S2x1x512, .f32⟩
  | .local _ .vmem, ⟨2, _⟩ => ⟨S2x512x64, .f32⟩
  | .local _ .vmem, ⟨3, _⟩ => ⟨S2x512x128, .bf16⟩
  | .local _ .vmem, ⟨4, _⟩ => ⟨S8192x64, .f32⟩
  | .local _ .vmem, ⟨5, _⟩ => ⟨S8192x64, .f32⟩
  | .local _ .vmem, ⟨6, _⟩ => ⟨S2x1x512, .f32⟩
  | .local _ .vmem, ⟨7, _⟩ => ⟨S2x512x64, .f32⟩
  | .local _ .vmem, ⟨8, _⟩ => ⟨S2x512x128, .bf16⟩
  | .local _ .vmem, ⟨9, _⟩ => ⟨S8192x64, .f32⟩
  | .local _ .vmem, ⟨10, _⟩ => ⟨S8192x64, .f32⟩
  | .local _ .vmem, ⟨11, _⟩ => ⟨S1x1, .f32⟩
  | _, _ => ⟨S8x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11

abbrev nD : Nat := 1
abbrev τ : Topo := Topo.v7x

variable {F : FTy → Type} [FloatOps F]

abbrev grid0 : Pipeline.Grid := .none

abbrev stage0_0 : Fin 1 → Memref sig .tc .vmem S2x512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![16], ![false]⟩

def k1_cond1 (i : grid1.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_31 : BitVec 32 := 0#32
  let v70 : BitVec 1 := Scalar.cmpi .ne v69 c0_i32_31
  v70

def k1_cond2 (i : grid1.Coords) : BitVec 1 :=
  let arg0 : BitVec 32 := BitVec.ofNat 32 (i 0).val
  let c0_i32_32 : BitVec 32 := 0#32
  let v71 : BitVec 1 := Scalar.cmpi .sgt arg0 c0_i32_32
  let v72 : BitVec 32 := Scalar.extui v71
  let c0_i32_33 : BitVec 32 := 0#32
  let v73 : BitVec 1 := Scalar.cmpi .ne v72 c0_i32_33
  v73

def k1_cond3 (i : grid1.Coords) : BitVec 1 :=
  let arg0 : BitVec 32 := BitVec.ofNat 32 (i 0).val
  let c15_i32 : BitVec 32 := 15#32
  let v74 : BitVec 1 := Scalar.cmpi .eq arg0 c15_i32
  let v75 : BitVec 32 := Scalar.extui v74
  let c0_i32_34 : BitVec 32 := 0#32
  let v76 : BitVec 1 := Scalar.cmpi .ne v75 c0_i32_34
  v76

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x512x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x512x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8192x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S8x16384x64 : Shape := ⟨3, ![8, 16384, 64]⟩
abbrev S8x16384x2 : Shape := ⟨3, ![8, 16384, 2]⟩
abbrev S2x512x64 : Shape := ⟨3, ![2, 512, 64]⟩
abbrev S131072x64 : Shape := ⟨2, ![131072, 64]⟩
abbrev S_ : Shape := ⟨0, ![]⟩
abbrev S1x512x64 : Shape := ⟨3, ![1, 512, 64]⟩
abbrev S512x64 : Shape := ⟨2, ![512, 64]⟩
abbrev S131072 : Shape := ⟨1, ![131072]⟩
abbrev S131072x1 : Shape := ⟨2, ![131072, 1]⟩
abbrev S64x512 : Shape := ⟨2, ![64, 512]⟩
abbrev S131072x512 : Shape := ⟨2, ![131072, 512]⟩
abbrev S512 : Shape := ⟨1, ![512]⟩
abbrev S1x512 : Shape := ⟨2, ![1, 512]⟩
abbrev S1 : Shape := ⟨1, ![1]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S8x16384x64, .f32⟩
  | .hbm, ⟨1, _⟩ => ⟨S8x16384x2, .i32⟩
  | .hbm, ⟨2, _⟩ => ⟨S2x512x64, .f32⟩
  | .hbm, ⟨3, _⟩ => ⟨S131072x64, .f32⟩
  | .hbm, ⟨4, _⟩ => ⟨S_, .f32⟩
  | .hbm, ⟨5, _⟩ => ⟨S131072x64, .f32⟩
  | .hbm, ⟨6, _⟩ => ⟨S1x512x64, .f32⟩
  | .hbm, ⟨7, _⟩ => ⟨S512x64, .f32⟩
  | .hbm, ⟨8, _⟩ => ⟨S131072x64, .f32⟩
  | .hbm, ⟨9, _⟩ => ⟨S_, .f32⟩
  | .hbm, ⟨10, _⟩ => ⟨S131072, .f32⟩
  | .hbm, ⟨11, _⟩ => ⟨S131072x1, .f32⟩
  | .hbm, ⟨12, _⟩ => ⟨S_, .f32⟩
  | .hbm, ⟨13, _⟩ => ⟨S131072x64, .f32⟩
  | .hbm, ⟨14, _⟩ => ⟨S131072x64, .f32⟩
  | .hbm, ⟨15, _⟩ => ⟨S64x512, .f32⟩
  | .hbm, ⟨16, _⟩ => ⟨S131072x512, .f32⟩
  | .hbm, ⟨17, _⟩ => ⟨S131072x512, .f32⟩
  | .hbm, ⟨18, _⟩ => ⟨S131072x512, .f32⟩
  | .hbm, ⟨19, _⟩ => ⟨S512x64, .f32⟩
  | .hbm, ⟨20, _⟩ => ⟨S_, .f32⟩
  | .hbm, ⟨21, _⟩ => ⟨S512, .f32⟩
  | .hbm, ⟨22, _⟩ => ⟨S1x512, .f32⟩
  | .hbm, ⟨23, _⟩ => ⟨S131072x512, .f32⟩
  | .hbm, ⟨24, _⟩ => ⟨S131072x512, .f32⟩
  | .hbm, ⟨25, _⟩ => ⟨S131072x512, .i32⟩
  | .hbm, ⟨26, _⟩ => ⟨S_, .f32⟩
  | .hbm, ⟨27, _⟩ => ⟨S_, .i32⟩
  | .hbm, ⟨28, _⟩ => ⟨S131072, .f32⟩
  | .hbm, ⟨29, _⟩ => ⟨S131072, .i32⟩
  | .hbm, ⟨30, _⟩ => ⟨S_, .i32⟩
  | .hbm, ⟨31, _⟩ => ⟨S131072, .i32⟩
  | .hbm, ⟨32, _⟩ => ⟨S131072, .i1⟩
  | .hbm, ⟨33, _⟩ => ⟨S_, .i32⟩
  | .hbm, ⟨34, _⟩ => ⟨S131072, .i32⟩
  | .hbm, ⟨35, _⟩ => ⟨S131072, .i32⟩
  | .hbm, ⟨36, _⟩ => ⟨S131072, .i32⟩
  | .hbm, ⟨37, _⟩ => ⟨S131072x1, .i32⟩
  | .hbm, ⟨38, _⟩ => ⟨S1, .i32⟩
  | .hbm, ⟨39, _⟩ => ⟨S_, .i32⟩
  | .hbm, ⟨40, _⟩ => ⟨S131072x1, .i32⟩
  | .hbm, ⟨41, _⟩ => ⟨S131072x1, .i1⟩
  | .hbm, ⟨42, _⟩ => ⟨S1x1, .i32⟩
  | .hbm, ⟨43, _⟩ => ⟨S131072x1, .i32⟩
  | .hbm, ⟨44, _⟩ => ⟨S131072x1, .i1⟩
  | .hbm, ⟨45, _⟩ => ⟨S131072x1, .i1⟩
  | .hbm, ⟨46, _⟩ => ⟨S_, .i1⟩
  | .hbm, ⟨47, _⟩ => ⟨S131072, .i1⟩
  | .hbm, ⟨48, _⟩ => ⟨S131072x64, .f32⟩
  | .hbm, ⟨49, _⟩ => ⟨S131072x64, .i1⟩
  | .hbm, ⟨50, _⟩ => ⟨S_, .f32⟩
  | .hbm, ⟨51, _⟩ => ⟨S131072x64, .f32⟩
  | .hbm, ⟨52, _⟩ => ⟨S131072x64, .f32⟩
  | .hbm, ⟨53, _⟩ => ⟨S131072x64, .f32⟩
  | .hbm, ⟨54, _⟩ => ⟨S131072x64, .f32⟩
  | .hbm, ⟨55, _⟩ => ⟨S131072x64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S131072x64, .f32⟩
  | .hbm, ⟨63, _⟩ => ⟨S1x512x64, .f32⟩
  | .hbm, ⟨64, _⟩ => ⟨S512x64, .f32⟩
  | .hbm, ⟨65, _⟩ => ⟨S131072x64, .f32⟩
  | .hbm, ⟨66, _⟩ => ⟨S_, .f32⟩
  | .hbm, ⟨67, _⟩ => ⟨S131072, .f32⟩
  | .hbm, ⟨68, _⟩ => ⟨S131072x1, .f32⟩
  | .hbm, ⟨69, _⟩ => ⟨S_, .f32⟩
  | .hbm, ⟨70, _⟩ => ⟨S131072x64, .f32⟩
  | .hbm, ⟨71, _⟩ => ⟨S131072x64, .f32⟩
  | .hbm, ⟨72, _⟩ => ⟨S64x512, .f32⟩
  | .hbm, ⟨73, _⟩ => ⟨S131072x512, .f32⟩
  | .hbm, ⟨74, _⟩ => ⟨S131072x512, .f32⟩
  | .hbm, ⟨75, _⟩ => ⟨S131072x512, .f32⟩
  | .hbm, ⟨76, _⟩ => ⟨S512x64, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S131072x512, .f32⟩
  | .hbm, ⟨81, _⟩ => ⟨S131072x512, .f32⟩
  | .hbm, ⟨82, _⟩ => ⟨S131072x512, .i32⟩
  | .hbm, ⟨83, _⟩ => ⟨S_, .f32⟩
  | .hbm, ⟨84, _⟩ => ⟨S_, .i32⟩
  | .hbm, ⟨85, _⟩ => ⟨S131072, .f32⟩
  | .hbm, ⟨86, _⟩ => ⟨S131072, .i32⟩
  | .hbm, ⟨87, _⟩ => ⟨S_, .i32⟩
  | .hbm, ⟨88, _⟩ => ⟨S131072, .i32⟩
  | .hbm, ⟨89, _⟩ => ⟨S131072, .i1⟩
  | .hbm, ⟨90, _⟩ => ⟨S_, .i32⟩
  | .hbm, ⟨91, _⟩ => ⟨S131072, .i32⟩
  | .hbm, ⟨92, _⟩ => ⟨S131072, .i32⟩
  | .hbm, ⟨93, _⟩ => ⟨S131072, .i32⟩
  | .hbm, ⟨94, _⟩ => ⟨S131072x1, .i32⟩
  | .hbm, ⟨95, _⟩ => ⟨S1, .i32⟩
  | .hbm, ⟨96, _⟩ => ⟨S_, .i32⟩
  | .hbm, ⟨97, _⟩ => ⟨S131072x1, .i32⟩
  | .hbm, ⟨98, _⟩ => ⟨S131072x1, .i1⟩
  | .hbm, ⟨99, _⟩ => ⟨S1x1, .i32⟩
  | .hbm, ⟨100, _⟩ => ⟨S131072x1, .i32⟩
  | .hbm, ⟨101, _⟩ => ⟨S131072x1, .i1⟩
  | .hbm, ⟨102, _⟩ => ⟨S131072x1, .i1⟩
  | .hbm, ⟨103, _⟩ => ⟨S_, .i1⟩
  | .hbm, ⟨104, _⟩ => ⟨S131072, .i1⟩
  | .hbm, ⟨105, _⟩ => ⟨S131072x64, .f32⟩
  | .hbm, ⟨106, _⟩ => ⟨S131072x64, .i1⟩
  | .hbm, ⟨107, _⟩ => ⟨S_, .f32⟩
  | .hbm, ⟨108, _⟩ => ⟨S131072x64, .f32⟩
  | .hbm, ⟨109, _⟩ => ⟨S131072x64, .f32⟩
  | .hbm, ⟨110, _⟩ => ⟨S131072x64, .f32⟩
  | .hbm, ⟨111, _⟩ => ⟨S131072x64, .f32⟩
  | .hbm, ⟨112, _⟩ => ⟨S131072x64, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S131072x64, .f32⟩
  | .hbm, ⟨119, _⟩ => ⟨S131072x64, .f32⟩
  | .hbm, ⟨120, _⟩ => ⟨S131072x64, .f32⟩
  | .hbm, ⟨121, _⟩ => ⟨S8x16384x64, .f32⟩
  | _, _ => ⟨S8x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v18 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_cst_3 : Ref sig .tc := ⟨.hbm, 56, rfl⟩
abbrev main_v23 : Ref sig .tc := ⟨.hbm, 57, rfl⟩
abbrev main_cst_4 : Ref sig .tc := ⟨.hbm, 58, rfl⟩
abbrev main_v24 : Ref sig .tc := ⟨.hbm, 59, rfl⟩
abbrev main_cst_5 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_6 : Ref sig .tc := ⟨.hbm, 66, rfl⟩
abbrev main_v30 : Ref sig .tc := ⟨.hbm, 67, rfl⟩
abbrev main_v31 : Ref sig .tc := ⟨.hbm, 68, rfl⟩
abbrev main_cst_7 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_8 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_call2_v0 : Ref sig .tc := ⟨.hbm, 82, rfl⟩
abbrev main_call2_cst : Ref sig .tc := ⟨.hbm, 83, rfl⟩
abbrev main_call2_c : Ref sig .tc := ⟨.hbm, 84, rfl⟩
abbrev main_call2_v1_0 : Ref sig .tc := ⟨.hbm, 85, rfl⟩
abbrev main_v43 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_cst_9 : Ref sig .tc := ⟨.hbm, 113, rfl⟩
abbrev main_v48 : Ref sig .tc := ⟨.hbm, 114, rfl⟩
abbrev main_cst_10 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩

abbrev nD : Nat := 1
abbrev τ : Topo := Topo.v7x

variable {F : FTy → Type} [FloatOps F]
-- ==== Proof.KI.RvqBody.lean ====
/- What one call of the main kernel body leaves in its two output buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.ValueKit.Acc
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Values

variable (x0 : Vec F S8192x64 .f32) (x1 : Vec F S2x1x512 .f32) (x2 : Vec F S2x512x64 .f32) (x3 : Vec F S2x512x128 .bf16)

/-- Row `q` (0 or 1) of the squared code norms, as the body loads it. -/
def nrm0 : Vec F S1x1x512 .f32 := View.ld x1 (Rect.unit (s := S2x1x512) ![0, 0, 0] S1x1x512.size inb_S2x1x512_S1x1x512_0_0_0)
@[inherit_doc nrm0] def nrm1 : Vec F S1x1x512 .f32 := View.ld x1 (Rect.unit (s := S2x1x512) ![1, 0, 0] S1x1x512.size inb_S2x1x512_S1x1x512_1_0_0)
/-- The codebook `q` (0 or 1) times minus two, as the body loads it. -/
def neg0 : Vec F S1x512x64 .f32 := View.ld x2 (Rect.unit (s := S2x512x64) ![0, 0, 0] S1x512x64.size inb_S2x512x64_S1x512x64_0_0_0)
@[inherit_doc neg0] def neg1 : Vec F S1x512x64 .f32 := View.ld x2 (Rect.unit (s := S2x512x64) ![1, 0, 0] S1x512x64.size inb_S2x512x64_S1x512x64_1_0_0)
/-- The split codebook `q` (0 or 1), as the body loads it. -/
def spl0 : Vec F S1x512x128 .bf16 := View.ld x3 (Rect.unit (s := S2x512x128) ![0, 0, 0] S1x512x128.size inb_S2x512x128_S1x512x128_0_0_0)
@[inherit_doc spl0] def spl1 : Vec F S1x512x128 .bf16 := View.ld x3 (Rect.unit (s := S2x512x128) ![1, 0, 0] S1x512x128.size inb_S2x512x128_S1x512x128_1_0_0)

/-- The residual of the tile after the first stage. -/
def res1 : FVec F S8192x64 .f32 := k1_pay8 x0 (nrm0 x1) (neg0 x2) (spl0 x3)
/-- Its squared row norms. -/
def rr1 : FVec F S8192x1 .f32 := k1_pay9 x0 (nrm0 x1) (neg0 x2) (spl0 x3)
/-- What the body leaves in the tile of the first result. -/
def quantOut : FVec F S8192x64 .f32 := k1_pay12 (k1_pay7 x0 (nrm0 x1) (neg0 x2) (spl0 x3)) (res1 x0 x1 x2 x3) (rr1 x0 x1 x2 x3) (nrm1 x1) (neg1 x2) (spl1 x3)
/-- The loss of the tile: the sum of the least distances of both stages. -/
def lossOut : FVec F S1x1 .f32 := k1_pay13 (k1_pay6 x0 (nrm0 x1) (neg0 x2)) (res1 x0 x1 x2 x3) (rr1 x0 x1 x2 x3) (nrm1 x1) (neg1 x2)
/-- The loss so far `p` with the tile's loss added. -/
def lossAdd (p : Vec F S1x1 .f32) : FVec F S1x1 .f32 := k1_pay14 (k1_pay6 x0 (nrm0 x1) (neg0 x2)) (res1 x0 x1 x2 x3) (rr1 x0 x1 x2 x3) (nrm1 x1) (neg1 x2) p

end Values

set_option maxHeartbeats 1000000 in
/-- The body at the first tile: it leaves the tile of the result and starts the loss. -/
theorem rvq_A (c : Dev nD) (i : grid1.Coords) (arg1 : Memref sig .tc .vmem S8192x64 .f32) (harg1 : arg1.IsWhole) (arg2 : Memref sig .tc .vmem S2x1x512 .f32) (harg2 : arg2.IsWhole) (arg3 : Memref sig .tc .vmem S2x512x64 .f32) (harg3 : arg3.IsWhole) (arg4 : Memref sig .tc .vmem S2x512x128 .bf16) (harg4 : arg4.IsWhole) (arg5 : Memref sig .tc .vmem S8192x64 .f32) (harg5 : arg5.IsWhole) (arg6 : Memref sig .tc .vmem S1x1 .f32) (harg6 : arg6.IsWhole) (hc0 : k1_cond1 i = 1#1) (hc1 : ¬(k1_cond2 i = 1#1)) (hc2 : ¬(k1_cond3 i = 1#1))
    (x0 : Vec F S8192x64 .f32) (x1 : Vec F S2x1x512 .f32) (x2 : Vec F S2x512x64 .f32) (x3 : Vec F S2x512x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (quantOut x0 x1 x2 x3) ∗ owns (c : Thread nD τ) arg6 fullShare (lossOut x0 x1 x2 x3)) -∗ K ⟨⟩))
      ⊢ wp frame (wpE (defs₀ (F := F)) Variants.none c none) E (cc1__rvq_kernel i arg1 harg1 arg2 harg2 arg3 harg3 arg4 harg4 arg5 harg5 arg6 harg6) K := by
  simp only [cc1__rvq_kernel_eq_skeleton]; unfold cc1__rvq_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2; obtain rfl := harg4.eq_unread hf3
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    refine (View.read_writes_full _ _ _ _ _).trans ?_
    simp (disch := decide) only [View.readAt_eq_ld, hf0, hf1, hf2, hf3, View.ld_unit_lit']
    rfl
  iexists _; isplitr
  swap; · iexact H5
  ipureintro
  sl_unfold_words
  refine (View.read_writes_full _ _ _ _ _).trans ?_
  simp (disch := decide) only [View.readAt_eq_ld, hf0, hf1, hf2, hf3, View.ld_unit_lit']
  rfl

set_option maxHeartbeats 1000000 in
/-- The body at a middle tile: it adds to the loss so far. -/
theorem rvq_B (c : Dev nD) (i : grid1.Coords) (arg1 : Memref sig .tc .vmem S8192x64 .f32) (harg1 : arg1.IsWhole) (arg2 : Memref sig .tc .vmem S2x1x512 .f32) (harg2 : arg2.IsWhole) (arg3 : Memref sig .tc .vmem S2x512x64 .f32) (harg3 : arg3.IsWhole) (arg4 : Memref sig .tc .vmem S2x512x128 .bf16) (harg4 : arg4.IsWhole) (arg5 : Memref sig .tc .vmem S8192x64 .f32) (harg5 : arg5.IsWhole) (arg6 : Memref sig .tc .vmem S1x1 .f32) (harg6 : arg6.IsWhole) (hc0 : ¬(k1_cond1 i = 1#1)) (hc1 : k1_cond2 i = 1#1) (hc2 : ¬(k1_cond3 i = 1#1))
    (x0 : Vec F S8192x64 .f32) (x1 : Vec F S2x1x512 .f32) (x2 : Vec F S2x512x64 .f32) (x3 : Vec F S2x512x128 .bf16) (p : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare p
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (quantOut x0 x1 x2 x3) ∗ owns (c : Thread nD τ) arg6 fullShare (lossAdd x0 x1 x2 x3 p)) -∗ K ⟨⟩))
      ⊢ wp frame (wpE (defs₀ (F := F)) Variants.none c none) E (cc1__rvq_kernel i arg1 harg1 arg2 harg2 arg3 harg3 arg4 harg4 arg5 harg5 arg6 harg6) K := by
  simp only [cc1__rvq_kernel_eq_skeleton]; unfold cc1__rvq_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg1.eq_unread hf0; obtain rfl := harg2.eq_unread hf1; obtain rfl := harg3.eq_unread hf2; obtain rfl := harg4.eq_unread hf3; obtain rfl := harg6.eq_unread hf5
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    refine (View.read_writes_full _ _ _ _ _).trans ?_
    simp (disch := decide) only [View.readAt_eq_ld, hf0, hf1, hf2, hf3, View.ld_unit_lit']
    rfl
  iexists _; isplitr
  swap; · iexact H5
  ipureintro
  sl_unfold_words
  refine (View.read_writes_full _ _ _ _ _).trans ?_
  simp (disch := decide) only [View.readAt_eq_ld, hf0, hf1, hf2, hf3, hf5, View.ld_unit_lit']
  rfl

set_option maxHeartbeats 1000000 in
/-- The body at the last tile: it adds to the loss so far and scales it. -/
theorem rvq_C (c : Dev nD) (i : grid1.Coords) (arg1 : Memref sig .tc .vmem S8192x64 .f32) (harg1 : arg1.IsWhole) (arg2 : Memref sig .tc .vmem S2x1x512 .f32) (harg2 : arg2.IsWhole) (arg3 : Memref sig .tc .vmem S2x512x64 .f32) (harg3 : arg3.IsWhole) (arg4 : Memref sig .tc .vmem S2x512x128 .bf16) (harg4 : arg4.IsWhole) (arg5 : Memref sig .tc .vmem S8192x64 .f32) (harg5 : arg5.IsWhole) (arg6 : Memref sig .tc .vmem S1x1 .f32) (harg6 : arg6.IsWhole) (hc0 : ¬(k1_cond1 i = 1#1)) (hc1 : k1_cond2 i = 1#1) (hc2 : k1_cond3 i = 1#1)
    (x0 : Vec F S8192x64 .f32) (x1 : Vec F S2x1x512 .f32) (x2 : Vec F S2x512x64 .f32) (x3 : Vec F S2x512x128 .bf16) (p : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare p
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (quantOut x0 x1 x2 x3) ∗ owns (c : Thread nD τ) arg6 fullShare (k1_pay1 (lossAdd x0 x1 x2 x3 p))) -∗ K ⟨⟩))
      ⊢ wp frame (wpE (defs₀ (F := F)) Variants.none c none) E (cc1__rvq_kernel i arg1 harg1 arg2 harg2 arg3 harg3 arg4 harg4 arg5 harg5 arg6 harg6) K := by
  simp only [cc1__rvq_kernel_eq_skeleton]; unfold cc1__rvq_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg1.eq_unread hf0; obtain rfl := harg2.eq_unread hf1; obtain rfl := harg3.eq_unread hf2; obtain rfl := harg4.eq_unread hf3; obtain rfl := harg6.eq_unread hf5
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    sl_unfold_words
    refine (View.read_writes_full _ _ _ _ _).trans ?_
    simp (disch := decide) only [View.readAt_eq_ld, hf0, hf1, hf2, hf3, View.ld_unit_lit']
    rfl
  iexists _; isplitr
  swap; · iexact H5
  ipureintro
  sl_unfold_words
  refine (View.read_writes_full _ _ _ _ _).trans ?_
  refine (congrArg k1_pay1 (View.readCov_full _ _ _ _ _)).trans ?_
  simp (disch := decide) only [View.readAt_eq_ld, hf0, hf1, hf2, hf3, hf5, View.ld_unit_lit']
  rfl

end Cert.KernelIdeal.Run

end
-- ==== Proof.KI.PrepBody.lean ====
/- What one call of the preparing kernel body leaves in its three output buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.ValueKit.Acc
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Values

variable (x : Vec F S2x512x64 .f32)

/-- The codebook of the first stage, as the body loads it. -/
def cb0 : Vec F S1x512x64 .f32 := View.ld x (Rect.unit (s := S2x512x64) ![0, 0, 0] S1x512x64.size inb_S2x512x64_S1x512x64_0_0_0)
/-- The codebook of the second stage, as the body loads it. -/
def cb1 : Vec F S1x512x64 .f32 := View.ld x (Rect.unit (s := S2x512x64) ![1, 0, 0] S1x512x64.size inb_S2x512x64_S1x512x64_1_0_0)
/-- The squared code norms of both stages. -/
def nrmOut : Vec F S2x1x512 .f32 := View.canon [(⟨(Rect.unit (s := S2x1x512) ![1, 0, 0] S1x1x512.size inb_S2x1x512_S1x1x512_1_0_0), k0_pay8 (cb1 x)⟩ : View.Piece (Elt F) _ _), ⟨(Rect.unit (s := S2x1x512) ![0, 0, 0] S1x1x512.size inb_S2x1x512_S1x1x512_0_0_0), k0_pay4 (cb0 x)⟩]
/-- The codebooks of both stages times minus two. -/
def negOut : Vec F S2x512x64 .f32 := View.canon [(⟨(Rect.unit (s := S2x512x64) ![1, 0, 0] S1x512x64.size inb_S2x512x64_S1x512x64_1_0_0), k0_pay1 (k0_pay9 (cb1 x))⟩ : View.Piece (Elt F) _ _), ⟨(Rect.unit (s := S2x512x64) ![0, 0, 0] S1x512x64.size inb_S2x512x64_S1x512x64_0_0_0), k0_pay5 (cb0 x)⟩]
/-- The codebooks of both stages, split into a high and a low part side by side. -/
def splOut : Vec F S2x512x128 .bf16 := View.canon [(⟨(Rect.unit (s := S2x512x128) ![1, 0, 0] S1x512x128.size inb_S2x512x128_S1x512x128_1_0_0), k0_pay2 (k0_pay7 (cb1 x))⟩ : View.Piece (Elt F) _ _), ⟨(Rect.unit (s := S2x512x128) ![0, 0, 0] S1x512x128.size inb_S2x512x128_S1x512x128_0_0_0), k0_pay6 (cb0 x)⟩]

end Values

set_option maxHeartbeats 1000000 in
/-- The preparing body: it fills its three outputs whole. -/
theorem prep_run (c : Dev nD) (arg0 : Memref sig .tc .vmem S2x512x64 .f32) (harg0 : arg0.IsWhole) (arg1 : Memref sig .tc .vmem S2x1x512 .f32) (harg1 : arg1.IsWhole) (arg2 : Memref sig .tc .vmem S2x512x64 .f32) (harg2 : arg2.IsWhole) (arg3 : Memref sig .tc .vmem S2x512x128 .bf16) (harg3 : arg3.IsWhole)
    (x : Vec F S2x512x64 .f32) (E : Set ℕ) (K : PUnit → sProp 𝕄) :
    iprop(owns (c : Thread nD τ) arg0 fullShare x ∗ (∃ d, owns (c : Thread nD τ) arg1 fullShare d) ∗ (∃ d, owns (c : Thread nD τ) arg2 fullShare d) ∗ (∃ d, owns (c : Thread nD τ) arg3 fullShare d)
        ∗ (iprop(owns (c : Thread nD τ) arg0 fullShare x ∗ owns (c : Thread nD τ) arg1 fullShare (nrmOut x) ∗ owns (c : Thread nD τ) arg2 fullShare (negOut x) ∗ owns (c : Thread nD τ) arg3 fullShare (splOut x)) -∗ K ⟨⟩))
      ⊢ wp frame (wpE (defs₀ (F := F)) Variants.none c none) E (cc0__prep_kernel arg0 harg0 arg1 harg1 arg2 harg2 arg3 harg3) K := by
  simp only [cc0__prep_kernel_eq_skeleton]; unfold cc0__prep_kernel_skel
  simp only [k0_part1_eq_skeleton]
  unfold owns
  iintro ⟨⟨%f0, %hf0, H0⟩, ⟨%d1, %f1, -, H1⟩, ⟨%d2, %f2, -, H2⟩, ⟨%d3, %f3, -, H3⟩, Hk⟩
  obtain rfl := harg0.eq_unread hf0
  sl_exec
  sl_step
  iapply Hk
  isplitl [H0]
  · iexists _; isplitr; · ipureintro; exact harg0.read_unread _
    iexact H0
  isplitl [H1]
  · iexists _; isplitr
    swap; · iexact H1
    ipureintro
    sl_unfold_words
    refine (View.read_writes_eq_canon _ _ _ ?_).trans ?_
    · exact View.cover_of_tiledL _ S1x1x512.size (by sl_kernel_rfl)
    · simp only [View.readAt_eq_ld, hf0]; rfl
  isplitl [H2]
  · iexists _; isplitr
    swap; · iexact H2
    ipureintro
    sl_unfold_words
    refine (View.read_writes_eq_canon _ _ _ ?_).trans ?_
    · exact View.cover_of_tiledL _ S1x512x64.size (by sl_kernel_rfl)
    · simp only [View.readAt_eq_ld, hf0]; rfl
  iexists _; isplitr
  swap; · iexact H3
  ipureintro
  sl_unfold_words
  refine (View.read_writes_eq_canon _ _ _ ?_).trans ?_
  · exact View.cover_of_tiledL _ S1x512x128.size (by sl_kernel_rfl)
  · simp only [View.readAt_eq_ld, hf0]; rfl

end Cert.KernelIdeal.Run

end
-- ==== Proof.KI.Data.lean ====
/- The proof data of the two calls: what every staging buffer holds before and after each grid point, and that the bodies keep to it. -/
module

public import proofs.«01_k».proof.Proof.KI.RvqBody
public import proofs.«01_k».proof.Proof.KI.PrepBody

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The preparing call -/

/-- Window `w`'s block of the preparing call at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the preparing call. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => nrmOut (blk0 V c 0 t)
    | ⟨2, _⟩ => negOut (blk0 V c 0 t)
    | ⟨3, _⟩ => splOut (blk0 V c 0 t)
  Φ _ := Pipeline.ΦA spec0 c
  q _ := fullShare
  owed _ := 0

theorem dat0_A (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = nrmOut (blk0 V c 0 t) := by dsimp only [dat0]
theorem after0_2 (c : Dev nD) (t : Fin cfg0.N) : (dat0 V c).after 2 t = negOut (blk0 V c 0 t) := by dsimp only [dat0]
theorem after0_3 (c : Dev nD) (t : Fin cfg0.N) : (dat0 V c).after 3 t = splOut (blk0 V c 0 t) := by dsimp only [dat0]

/-- The codebooks' staging buffer holds the block of the array. -/
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [dat0_A]; try rfl) t d).trans
    (by unfold Dat.fetched Dat.blockOf blk0; rw [dat0_A]; try rfl)

/-- What the preparing body is called with. -/
def pre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d)))

/-- What the preparing body returns. -/
def post0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 1200000 in
/-- The preparing body keeps to the proof data. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (win0_0.stage (cfg0.slots t 0)) fullShare ((dat0 V c).after 0 t) from by
      unfold Dat.leavesExact; rw [show cfg0.idle 0 (cfg0.grid.coords t) = false from rfl], after0_0]
  rw [show (dat0 V c).leavesExact 1 t = owns (c : Thread nD τ) (win0_1.stage (cfg0.slots t 1)) fullShare ((dat0 V c).after 1 t) from by
      unfold Dat.leavesExact; rw [show cfg0.idle 1 (cfg0.grid.coords t) = false from rfl], after0_1]
  rw [show (dat0 V c).leavesExact 2 t = owns (c : Thread nD τ) (win0_2.stage (cfg0.slots t 2)) fullShare ((dat0 V c).after 2 t) from by
      unfold Dat.leavesExact; rw [show cfg0.idle 2 (cfg0.grid.coords t) = false from rfl], after0_2]
  rw [show (dat0 V c).leavesExact 3 t = owns (c : Thread nD τ) (win0_3.stage (cfg0.slots t 3)) fullShare ((dat0 V c).after 3 t) from by
      unfold Dat.leavesExact; rw [show cfg0.idle 3 (cfg0.grid.coords t) = false from rfl], after0_3]
  iintro ⟨HΦ, Ho, ⟨%d0, H0⟩, ⟨%d1, H1⟩, ⟨%d2, H2⟩, ⟨%d3, H3⟩⟩
  iapply (prep_run c _ _ _ _ _ _ _ _ (blk0 V c 0 t) Set.univ _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem row0 (t : Fin cfg0.N) : defs₀ (F := F) .tc cfg0.body (cfg0.bodyArgs t (cfg0.slots t)) = bodyAt0 t := by
  unfold defs₀; rw [Defs.onTc_tc]

/-- The preparing call's body obligation. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

/-! ## The main call -/

/-- Window `w`'s block of the main call at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first condition holds at the first point only. -/
theorem first1 : ∀ t : Fin cfg1.N, k1_cond1 (grid1.coords t) = 1#1 ↔ t.val = 0 :=
  (by decide +kernel : ∀ t : Fin grid1.N, k1_cond1 (grid1.coords t) = 1#1 ↔ t.val = 0)
/-- The second condition holds at every other point. -/
theorem later1 : ∀ t : Fin cfg1.N, k1_cond2 (grid1.coords t) = 1#1 ↔ 1 ≤ t.val :=
  (by decide +kernel : ∀ t : Fin grid1.N, k1_cond2 (grid1.coords t) = 1#1 ↔ 1 ≤ t.val)
/-- The third condition holds at the last point only. -/
theorem last1 : ∀ t : Fin cfg1.N, k1_cond3 (grid1.coords t) = 1#1 ↔ t.val = 15 :=
  (by decide +kernel : ∀ t : Fin grid1.N, k1_cond3 (grid1.coords t) = 1#1 ↔ t.val = 15)

/-- The loss buffer is stored into at every point. -/
theorem live1_5 : ∀ t : Fin cfg1.N, cfg1.idle 5 (cfg1.grid.coords t) = false :=
  (by decide +kernel : ∀ t : Fin grid1.N, cfg1.idle 5 (grid1.coords t) = false)

/-- Whether the loss buffer is new at position `n`: at the first point and after the last one. -/
def newTab : ℕ → Bool
  | 0 => true
  | n + 1 => (0x8000 : ℕ).testBit n
theorem newTab_step : ∀ t : Fin cfg1.N,
    newTab (t.val + 1) = ((cfg1.win 5).flush t || (cfg1.idle 5 (cfg1.grid.coords t) && newTab t.val)) := by decide +kernel
theorem kept1 : ∀ t : Fin cfg1.N, 1 ≤ t.val → cfg1.fresh 5 t.val = false := by
  intro t; rw [Pipeline.Cfg.fresh_tab cfg1 5 newTab rfl newTab_step t.val (Nat.le_of_lt t.isLt)]; revert t; decide +kernel

/-- What the loss buffer holds after the body at position `n`. -/
def lossAt (c : Dev nD) : (n : ℕ) → n < cfg1.N → Vec F S1x1 .f32
  | 0, hn => lossOut (blk1 V c 0 ⟨0, hn⟩) (blk1 V c 1 ⟨0, hn⟩) (blk1 V c 2 ⟨0, hn⟩) (blk1 V c 3 ⟨0, hn⟩)
  | n + 1, hn =>
    if n + 1 = 15 then
      k1_pay1 (lossAdd (blk1 V c 0 ⟨n + 1, hn⟩) (blk1 V c 1 ⟨n + 1, hn⟩) (blk1 V c 2 ⟨n + 1, hn⟩) (blk1 V c 3 ⟨n + 1, hn⟩) (lossAt c n (Nat.lt_of_succ_lt hn)))
    else
      lossAdd (blk1 V c 0 ⟨n + 1, hn⟩) (blk1 V c 1 ⟨n + 1, hn⟩) (blk1 V c 2 ⟨n + 1, hn⟩) (blk1 V c 3 ⟨n + 1, hn⟩) (lossAt c n (Nat.lt_of_succ_lt hn))

theorem lossAt_first (c : Dev nD) (t : Fin cfg1.N) (h : t.val = 0) :
    lossAt V c t.val t.isLt = lossOut (blk1 V c 0 t) (blk1 V c 1 t) (blk1 V c 2 t) (blk1 V c 3 t) := by
  obtain ⟨n, hn⟩ := t; dsimp only at h; subst h; rfl
theorem lossAt_middle (c : Dev nD) (t : Fin cfg1.N) (h : 1 ≤ t.val) (h' : t.val ≠ 15) :
    lossAt V c t.val t.isLt = lossAdd (blk1 V c 0 t) (blk1 V c 1 t) (blk1 V c 2 t) (blk1 V c 3 t) (lossAt V c (t.val - 1) (Nat.lt_of_le_of_lt (Nat.sub_le _ _) t.isLt)) := by
  obtain ⟨n, hn⟩ := t
  cases n with
  | zero => exact absurd h (by dsimp only; omega)
  | succ n => exact if_neg h'
theorem lossAt_last (c : Dev nD) (t : Fin cfg1.N) (h' : t.val = 15) :
    lossAt V c t.val t.isLt = k1_pay1 (lossAdd (blk1 V c 0 t) (blk1 V c 1 t) (blk1 V c 2 t) (blk1 V c 3 t) (lossAt V c (t.val - 1) (Nat.lt_of_le_of_lt (Nat.sub_le _ _) t.isLt))) := by
  obtain ⟨n, hn⟩ := t
  cases n with
  | zero => exact absurd h' (by dsimp only; omega)
  | succ n => exact if_pos h'

/-- The proof data of the main call. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => quantOut (blk1 V c 0 t) (blk1 V c 1 t) (blk1 V c 2 t) (blk1 V c 3 t)
    | ⟨5, _⟩ => lossAt V c t.val t.isLt
  Φ _ := Pipeline.ΦA spec1 c
  q _ := fullShare
  owed _ := 0

theorem dat1_A (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = quantOut (blk1 V c 0 t) (blk1 V c 1 t) (blk1 V c 2 t) (blk1 V c 3 t) := by dsimp only [dat1]
theorem after1_5 (c : Dev nD) (t : Fin cfg1.N) : (dat1 V c).after 5 t = lossAt V c t.val t.isLt := by dsimp only [dat1]
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [dat1_A]; try rfl) t d).trans
    (by unfold Dat.fetched Dat.blockOf blk1; rw [dat1_A]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [dat1_A]; try rfl) t d).trans
    (by unfold Dat.fetched Dat.blockOf blk1; rw [dat1_A]; try rfl)
/-- From the second point on the loss buffer holds what the point before left. -/
theorem before1_5 (c : Dev nD) (t : Fin cfg1.N) (h : 1 ≤ t.val) (d) :
    (dat1 V c).before 5 t d = lossAt V c (t.val - 1) (Nat.lt_of_le_of_lt (Nat.sub_le _ _) t.isLt) := by
  rw [Dat.before_out_traj _ 5 rfl (fun _ _ => rfl) (fun t _ hi => absurd hi (by rw [live1_5 t]; exact Bool.false_ne_true)) t.val t rfl d,
    if_neg (by rw [kept1 t h]; exact Bool.false_ne_true)]
  dsimp only [dat1]

/-- What the main body is called with. -/
def pre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d)))

/-- What the main body returns. -/
def post1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 1200000 in
/-- The main body keeps to the proof data. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3]
  rw [show (dat1 V c).Φ t.succ = (dat1 V c).Φ t.castSucc from rfl,
    show (dat1 V c).owesAt () t.succ = (dat1 V c).owesAt () t.castSucc from rfl]
  rw [show (dat1 V c).leavesExact 0 t = owns (c : Thread nD τ) (win1_0.stage (cfg1.slots t 0)) fullShare ((dat1 V c).after 0 t) from by
      unfold Dat.leavesExact; rw [show cfg1.idle 0 (cfg1.grid.coords t) = false from rfl], after1_0]
  rw [show (dat1 V c).leavesExact 1 t = owns (c : Thread nD τ) (win1_1.stage (cfg1.slots t 1)) fullShare ((dat1 V c).after 1 t) from by
      unfold Dat.leavesExact; rw [show cfg1.idle 1 (cfg1.grid.coords t) = false from rfl], after1_1]
  rw [show (dat1 V c).leavesExact 2 t = owns (c : Thread nD τ) (win1_2.stage (cfg1.slots t 2)) fullShare ((dat1 V c).after 2 t) from by
      unfold Dat.leavesExact; rw [show cfg1.idle 2 (cfg1.grid.coords t) = false from rfl], after1_2]
  rw [show (dat1 V c).leavesExact 3 t = owns (c : Thread nD τ) (win1_3.stage (cfg1.slots t 3)) fullShare ((dat1 V c).after 3 t) from by
      unfold Dat.leavesExact; rw [show cfg1.idle 3 (cfg1.grid.coords t) = false from rfl], after1_3]
  rw [show (dat1 V c).leavesExact 4 t = owns (c : Thread nD τ) (win1_4.stage (cfg1.slots t 4)) fullShare ((dat1 V c).after 4 t) from by
      unfold Dat.leavesExact; rw [show cfg1.idle 4 (cfg1.grid.coords t) = false from rfl], after1_4]
  rw [show (dat1 V c).leavesExact 5 t = owns (c : Thread nD τ) (win1_5.stage (cfg1.slots t 5)) fullShare ((dat1 V c).after 5 t) from by
      unfold Dat.leavesExact; rw [live1_5 t], after1_5]
  by_cases h0 : t.val = 0
  · rw [lossAt_first V c t h0]
    iintro ⟨HΦ, Ho, ⟨%d0, H0⟩, ⟨%d1, H1⟩, ⟨%d2, H2⟩, ⟨%d3, H3⟩, ⟨%d4, H4⟩, ⟨%d5, H5⟩⟩
    iapply (rvq_A c (grid1.coords t) _ _ _ _ _ _ _ _ _ _ _ _ ((first1 t).mpr h0) (fun h => by have := (later1 t).mp h; omega) (fun h => by have := (last1 t).mp h; omega) (blk1 V c 0 t) (blk1 V c 1 t) (blk1 V c 2 t) (blk1 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have h1 : 1 ≤ t.val := by omega
    simp only [before1_5 V c t h1]
    by_cases h2 : t.val = 15
    · rw [lossAt_last V c t h2]
      iintro ⟨HΦ, Ho, ⟨%d0, H0⟩, ⟨%d1, H1⟩, ⟨%d2, H2⟩, ⟨%d3, H3⟩, ⟨%d4, H4⟩, ⟨%d5, H5⟩⟩
      iapply (rvq_C c (grid1.coords t) _ _ _ _ _ _ _ _ _ _ _ _ (fun h => h0 ((first1 t).mp h)) ((later1 t).mpr h1) ((last1 t).mpr h2) (blk1 V c 0 t) (blk1 V c 1 t) (blk1 V c 2 t) (blk1 V c 3 t) _ Set.univ _)
      isplitl [H0]; · iexact H0
      isplitl [H1]; · iexact H1
      isplitl [H2]; · iexact H2
      isplitl [H3]; · iexact H3
      isplitl [H4]; · iexists _; iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [lossAt_middle V c t h1 h2]
      iintro ⟨HΦ, Ho, ⟨%d0, H0⟩, ⟨%d1, H1⟩, ⟨%d2, H2⟩, ⟨%d3, H3⟩, ⟨%d4, H4⟩, ⟨%d5, H5⟩⟩
      iapply (rvq_B c (grid1.coords t) _ _ _ _ _ _ _ _ _ _ _ _ (fun h => h0 ((first1 t).mp h)) ((later1 t).mpr h1) (fun h => h2 ((last1 t).mp h)) (blk1 V c 0 t) (blk1 V c 1 t) (blk1 V c 2 t) (blk1 V c 3 t) _ Set.univ _)
      isplitl [H0]; · iexact H0
      isplitl [H1]; · iexact H1
      isplitl [H2]; · iexact H2
      isplitl [H3]; · iexact H3
      isplitl [H4]; · iexists _; iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5

theorem row1 (t : Fin cfg1.N) : defs₀ (F := F) .tc cfg1.body (cfg1.bodyArgs t (cfg1.slots t)) = bodyAt1 t := by
  unfold defs₀; rw [Defs.onTc_tc]

/-- The main call's body obligation. -/
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

end Cert.KernelIdeal.Run

end
-- ==== Proof.KI.Run.lean ====
/- The run of the whole program: the host operations and the two calls in order, and what every unscoped buffer holds at the end. -/
module

public import proofs.«01_k».proof.Proof.KI.Data
public import proofs.«01_k».proof.Proof.Gen.KernelIdeal.Regions
public import Idealize.ShloMosaic.Lib.Pipeline.RegionArraysS
public import Idealize.ShloMosaic.Lib.Claim

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the items -/

/-- The proof data of the preparing call, over the contents after the first host stretch. -/
def D0 (c : Dev nD) : Dat τ (Elt F) Unit ℕ (UR sig nD τ) ℕ cfg0 c := dat0 (fun c b => V1 m c (Proc.devRef .tc b)) c

/-- What the preparing call leaves. -/
def outs1 : Outs (F := F) := fun _ r c => Pipeline.afterRegion (D0 m c) (V1 m c) (Proc.devRef .tc r)

/-- The proof data of the main call, over what the preparing call leaves. -/
def D1 (c : Dev nD) : Dat τ (Elt F) Unit ℕ (UR sig nD τ) ℕ cfg1 c := dat1 (fun c b => V2 m (outs1 m) c (Proc.devRef .tc b)) c

/-- What the two calls leave. -/
def outs : Outs (F := F) := fun n r c => match n with
  | 2 => outs1 m 2 r c
  | _ => Pipeline.afterRegion (D1 m c) (V2 m (outs1 m) c) (Proc.devRef .tc r)

/-- The contents before the main call depend on the preparing call only. -/
theorem V2_outs (c : Dev nD) : V2 m (outs m) c = V2 m (outs1 m) c := rfl

/-- The two calls' proof data. -/
def pdats : (p : Fin 2) → (c : Dev nD) → Dat τ (Elt F) Unit ℕ (UR sig nD τ) ℕ (Pipeline.pin (pcfgs (F := F)) adm p) c
  | 0 => D0 m
  | 1 => D1 m

theorem afterRegion0 (c : Dev nD) : Pipeline.afterRegion (D0 m c) (V1 m c) = V2 m (outs m) c := by
  funext b
  by_cases h2 : b = Proc.devRef .tc main_v1_2
  · subst h2
    simp only [V2, Function.update_self]; rfl
  rw [show V2 m (outs m) c b = _ from Function.update_of_ne h2 _ _]
  by_cases h1 : b = Proc.devRef .tc main_v1_1
  · subst h1; rw [Function.update_self]; rfl
  rw [Function.update_of_ne h1]
  by_cases h0 : b = Proc.devRef .tc main_v1_0
  · subst h0; rw [Function.update_self]; rfl
  rw [Function.update_of_ne h0]
  by_cases h : ∃ w : Fin cfg0.W, b = Proc.devRef .tc (Pipeline.arrRef cfg0.spec w)
  · obtain ⟨w, hw⟩ := h
    subst hw
    rw [Pipeline.afterRegion_arr (D0 m c) (V1 m c) winFacts0.arr_inj w]
    match w with
    | ⟨0, _⟩ => exact (D0 m c).arrAt_in 0 rfl _
    | ⟨1, _⟩ => exact absurd rfl h0
    | ⟨2, _⟩ => exact absurd rfl h1
    | ⟨3, _⟩ => exact absurd rfl h2
  · unfold Pipeline.afterRegion; rw [dif_neg h]

theorem afterRegion1 (c : Dev nD) : Pipeline.afterRegion (D1 m c) (V2 m (outs m) c) = V3 m (outs m) c := by
  funext b
  by_cases h1 : b = Proc.devRef .tc main_v2_1
  · subst h1
    simp only [V3, Function.update_self]; rfl
  rw [show V3 m (outs m) c b = _ from Function.update_of_ne h1 _ _]
  by_cases h0 : b = Proc.devRef .tc main_v2_0
  · subst h0; rw [Function.update_self]; rfl
  rw [Function.update_of_ne h0]
  by_cases h : ∃ w : Fin cfg1.W, b = Proc.devRef .tc (Pipeline.arrRef cfg1.spec w)
  · obtain ⟨w, hw⟩ := h
    subst hw
    rw [Pipeline.afterRegion_arr (D1 m c) (V2 m (outs m) c) winFacts1.arr_inj w]
    match w with
    | ⟨0, _⟩ => exact (D1 m c).arrAt_in 0 rfl _
    | ⟨1, _⟩ => exact (D1 m c).arrAt_in 1 rfl _
    | ⟨2, _⟩ => exact (D1 m c).arrAt_in 2 rfl _
    | ⟨3, _⟩ => exact (D1 m c).arrAt_in 3 rfl _
    | ⟨4, _⟩ => exact absurd rfl h0
    | ⟨5, _⟩ => exact absurd rfl h1
  · unfold Pipeline.afterRegion; rw [dif_neg h]

/-! ## The regions' records -/

/-- Every wait of a TensorCore is at the one index. -/
def lev : GSem nD τ sig → Finset Unit := fun g => if g.1.2 = .tc then {()} else ∅

/-- No core owes anything. -/
def dues : Dev nD → CellTallies nD τ sig Unit := fun _ => 0

/-- What rides along between the items: the generator register, and that nothing is owed. -/
def rest (c : Dev nD) : sProp 𝕄 := iprop((∃ Wd, owes (c : Thread nD τ) (dues c) Wd) ∗ (∃ r, prngReg c r) ∗ emp)

theorem cut (p : Fin 2) : Pipeline.LevelCut (pcfgs (F := F)) adm () lev (fun _ _ => (0 : ℕ)) p dues (fun _ => 0) where
  hι c w s := by unfold lev; rw [if_pos rfl]; exact Finset.mem_singleton_self _
  hιb c w s := Nat.le_refl _
  hD c g i h := absurd h (by unfold dues; exact Nat.lt_irrefl 0)

theorem sub0 : Pipeline.arrRefs (τ := τ) spec0 ⊆ Pipeline.ucRefs τ sig := Pipeline.arrRefs_sub_ucRefs spec0 (by decide)
theorem sub1 : Pipeline.arrRefs (τ := τ) spec1 ⊆ Pipeline.ucRefs τ sig := Pipeline.arrRefs_sub_ucRefs spec1 (by decide)

/-- The preparing call's record. -/
def reg0 : RegionSeg (pcfgs (F := F)) adm (pdats m) () defs₀ Variants.none lev (fun _ _ => (0 : ℕ)) 0 :=
  RegionSeg.ofHeldIn (pcfgs (F := F)) adm (pdats m) () defs₀ Variants.none lev (fun _ _ => (0 : ℕ)) 0 dues (Pipeline.ucRefs τ sig)
    (fun c => iprop(∃ r, prngReg c r)) (fun c => iprop(∃ r, prngReg c r)) launch0.toP rfl
    (fun c => (obligation0 (fun c b => V1 m c (Proc.devRef .tc b)) c).loose) (fun _ _ => rfl) (fun _ => rfl) (fun c => (D0 m c).share_full fun _ => rfl)
    (fun c => .rfl) (fun c => .rfl) (fun _ => 0) (cut 0) (fun _ => iprop(emp)) (V1 m) (fun c w => (dat0_A (fun c b => V1 m c (Proc.devRef .tc b)) c w : (D0 m c).arrAt w 0 = _))

/-- The main call's record. -/
def reg1 : RegionSeg (pcfgs (F := F)) adm (pdats m) () defs₀ Variants.none lev (fun _ _ => (0 : ℕ)) 1 :=
  RegionSeg.ofHeldIn (pcfgs (F := F)) adm (pdats m) () defs₀ Variants.none lev (fun _ _ => (0 : ℕ)) 1 dues (Pipeline.ucRefs τ sig)
    (fun c => iprop(∃ r, prngReg c r)) (fun c => iprop(∃ r, prngReg c r)) launch1.toP rfl
    (fun c => (obligation1 (fun c b => V2 m (outs1 m) c (Proc.devRef .tc b)) c).loose) (fun _ _ => rfl) (fun _ => rfl) (fun c => (D1 m c).share_full fun _ => rfl)
    (fun c => .rfl) (fun c => .rfl) (fun _ => 0) (cut 1) (fun _ => iprop(emp)) (V2 m (outs m)) (fun c w => (dat1_A (fun c b => V2 m (outs1 m) c (Proc.devRef .tc b)) c w : (D1 m c).arrAt w 0 = _))

theorem reg0_pre (c : Dev nD) : iprop(StableHlo.held (c : Thread nD τ) (Pipeline.ucRefs τ sig) (V1 m c) ∗ rest (F := F) c) ⊢ (reg0 m).pre c := by
  refine RegionSeg.ofHeldIn_pre (pcs := pcfgs (F := F)) (a := adm) (pdats := pdats m) (ι := ()) (defs₀ := defs₀) (𝒱₀ := Variants.none) (L := lev) (lv := fun _ _ => (0 : ℕ)) (p := 0) (D := dues)
    (S := Pipeline.ucRefs τ sig) (X := fun c => iprop(∃ r, prngReg c r)) (Y := fun c => iprop(∃ r, prngReg c r)) (R := fun _ => iprop(emp)) (W := V1 m) ?_ c
  exact sub0
theorem reg0_post (c : Dev nD) : (reg0 m).post c ⊢ iprop(StableHlo.held (c : Thread nD τ) (Pipeline.ucRefs τ sig) (V2 m (outs m) c) ∗ rest (F := F) c) := by
  rw [← afterRegion0 m c]
  refine RegionSeg.ofHeldIn_post (pcs := pcfgs (F := F)) (a := adm) (pdats := pdats m) (ι := ()) (defs₀ := defs₀) (𝒱₀ := Variants.none) (L := lev) (lv := fun _ _ => (0 : ℕ)) (p := 0) (D := dues)
    (S := Pipeline.ucRefs τ sig) (X := fun c => iprop(∃ r, prngReg c r)) (Y := fun c => iprop(∃ r, prngReg c r)) (R := fun _ => iprop(emp)) (W := V1 m) ?_ c
  exact sub0
theorem reg1_pre (c : Dev nD) : iprop(StableHlo.held (c : Thread nD τ) (Pipeline.ucRefs τ sig) (V2 m (outs m) c) ∗ rest (F := F) c) ⊢ (reg1 m).pre c := by
  refine RegionSeg.ofHeldIn_pre (pcs := pcfgs (F := F)) (a := adm) (pdats := pdats m) (ι := ()) (defs₀ := defs₀) (𝒱₀ := Variants.none) (L := lev) (lv := fun _ _ => (0 : ℕ)) (p := 1) (D := dues)
    (S := Pipeline.ucRefs τ sig) (X := fun c => iprop(∃ r, prngReg c r)) (Y := fun c => iprop(∃ r, prngReg c r)) (R := fun _ => iprop(emp)) (W := V2 m (outs m)) ?_ c
  exact sub1
theorem reg1_post (c : Dev nD) : (reg1 m).post c ⊢ iprop(StableHlo.held (c : Thread nD τ) (Pipeline.ucRefs τ sig) (V3 m (outs m) c) ∗ rest (F := F) c) := by
  rw [← afterRegion1 m c]
  refine RegionSeg.ofHeldIn_post (pcs := pcfgs (F := F)) (a := adm) (pdats := pdats m) (ι := ()) (defs₀ := defs₀) (𝒱₀ := Variants.none) (L := lev) (lv := fun _ _ => (0 : ℕ)) (p := 1) (D := dues)
    (S := Pipeline.ucRefs τ sig) (X := fun c => iprop(∃ r, prngReg c r)) (Y := fun c => iprop(∃ r, prngReg c r)) (R := fun _ => iprop(emp)) (W := V2 m (outs m)) ?_ c
  exact sub1

/-! ## The run -/

/-- What a core holds at launch is what the first item is entered with. -/
theorem launch (c : Dev nD) : iprop(unscopedBufs c (fun b => m ((c.tc : Thread nD τ).loc b)) ∗ unscopedSems0 c
      ∗ owes (c.tc : Thread nD τ) (dues c) ∅ ∗ Pipeline.launchCred dues c ∗ prngReg c (ρ c) ∗ emp)
    ⊢ (iprop(StableHlo.held (c : Thread nD τ) (Pipeline.ucRefs τ sig) (V0 m c) ∗ rest c) : sProp 𝕄) := by
  rw [← Pipeline.unscopedBufs_held (Ix := Unit) (Name := ℕ) (U := UR sig nD τ) (Lvl := ℕ) c (V0 m c)]
  unfold rest
  iintro ⟨H, -, Ho, -, Hp, -⟩
  isplitl [H]; · iexact H
  isplitl [Ho]; · iexists _; iexact Ho
  isplitl [Hp]; · iexists _; iexact Hp
  iempintro

theorem launchAll : iprop((bigSep Finset.univ fun c : Dev nD => iprop(unscopedBufs c (fun b => m ((c.tc : Thread nD τ).loc b)) ∗ unscopedSems0 c
      ∗ owes (c.tc : Thread nD τ) (dues c) ∅ ∗ Pipeline.launchCred dues c ∗ prngReg c (ρ c) ∗ emp)) ∗ levAts lev (fun _ _ => (0 : ℕ)))
    ⊢ (|={Set.univ}=> bigSep Finset.univ fun c : Dev nD => iprop(StableHlo.held (c : Thread nD τ) (Pipeline.ucRefs τ sig) (V0 m c) ∗ rest c) : sProp 𝕄) := by
  have hsplit : (bigSep Finset.univ fun c : Dev nD => iprop(unscopedBufs c (fun b => m ((c.tc : Thread nD τ).loc b)) ∗ unscopedSems0 c
      ∗ owes (c.tc : Thread nD τ) (dues c) ∅ ∗ Pipeline.launchCred dues c ∗ prngReg c (ρ c) ∗ emp))
    ⊢ (bigSep Finset.univ fun c : Dev nD => iprop(StableHlo.held (c : Thread nD τ) (Pipeline.ucRefs τ sig) (V0 m c) ∗ rest c) : sProp 𝕄) :=
    bigSep_mono fun c _ => launch m ρ c
  iintro ⟨H, -⟩
  imodintro
  iapply hsplit; iexact H

set_option backward.isDefEq.respectTransparency.types false in
set_option maxHeartbeats 1000000 in
/-- Every execution of the program ends, with every unscoped buffer of a TensorCore at the contents after the last item and every counter at zero. -/
theorem run : θ_run defs (onTc (τ := τ) (main (F := F))) ⟨m, fun _ => 0, ρ⟩ (fun r =>
    (∀ c : Dev nD, ∀ b ∈ Pipeline.ucRefs τ sig, r.2.mem (c, b) = V4 m (outs m) c b) ∧ r.2.sem = fun _ => 0) := by
  refine Pipeline.θ_run_regions_kit_dev_sems (pcfgs (F := F)) adm (pdats m) () cellOf_inj emb₁ defs₀ Variants.none lev (fun _ _ => (0 : ℕ)) m ρ main
    (segs m (outs m) Variants.none lev (fun _ _ => (0 : ℕ)) (fun _ => rest) () (pdats m) (reg0 m) (reg1 m))
    (fun c Q => by
      rewrite [main_chain c, Seg.run_eq_chain,
        show (segs m (outs m) Variants.none lev (fun _ _ => (0 : ℕ)) (fun _ => rest) () (pdats m) (reg0 m) (reg1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) dues
    (fun g h => if_neg h) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (V4 m (outs m) c))
    (hch := fun c => ⟨.rfl, reg0_pre m c, (reg0_post m c).trans (reg1_pre m c), reg1_post m c, sep_mono .rfl ?_⟩)
    (hinit := ?_) (QY := fun c s => ∀ b ∈ Pipeline.ucRefs τ sig, s.mem (c, b) = V4 m (outs m) c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · unfold rest; iintro ⟨H, -⟩; iexact H
  · exact launchAll m ρ
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact h
    · iexact HSI

/-- The arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c (Proc.devRef .tc main_arg0) (Finset.mem_filter.mpr ⟨StableHlo.devRef_mem_tcRefs main_arg0, by decide⟩)).trans (V4_main_arg0 m (outs m) c),
     (h.1 c (Proc.devRef .tc main_arg1) (Finset.mem_filter.mpr ⟨StableHlo.devRef_mem_tcRefs main_arg1, by decide⟩)).trans (V4_main_arg1 m (outs m) c),
     (h.1 c (Proc.devRef .tc main_arg2) (Finset.mem_filter.mpr ⟨StableHlo.devRef_mem_tcRefs main_arg2, by decide⟩)).trans (V4_main_arg2 m (outs m) c)⟩, h.2⟩) (run m ρ)

end Cert.KernelIdeal.Run

end
-- ==== Proof.RI.Ops.lean ====
/- The reference program's operations in order, cut into seven parts: the distances of the first stage, the choice of the
   nearest code, its row, the first stage's loss and the second stage's distances, the choice, its row, and the results. -/
module

public import proofs.«01_k».proof.Proof.Gen.ReferenceIdeal
public import Idealize.ShloMosaic.Lib.StableHlo.Run

@[expose] public section

set_option maxRecDepth 1000000

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- The operations of part `dist0`, in order. -/
abbrev ops_dist0 : List (HloOp τ sig (Elt F)) :=
  [ reshape main_arg0 main_v0 (rfl : (.f32 : EltTy) = .f32) shapeCasts_S8x16384x64_S131072x64,
    nullary main_cst (constant S_ .f32 0x00000000#32),
    unary main_cst main_v1 (broadcastInDim S131072x64 ![] bcast_S_S131072x64 : (⟨S_, .f32⟩ : BufTy).Contents (Elt F) → (⟨S131072x64, .f32⟩ : BufTy).Contents (Elt F)),
    unary main_arg2 main_v2 ((extractStridedSlice S1x512x64 ![0, 0, 0] · slices_S2x512x64_S1x512x64_0_0_0) : (⟨S2x512x64, .f32⟩ : BufTy).Contents (Elt F) → (⟨S1x512x64, .f32⟩ : BufTy).Contents (Elt F)),
    reshape main_v2 main_v3 (rfl : (.f32 : EltTy) = .f32) shapeCasts_S1x512x64_S512x64,
    binary main_v0 main_v0 main_v4 (mulf : (⟨S131072x64, .f32⟩ : BufTy).Contents (Elt F) → (⟨S131072x64, .f32⟩ : BufTy).Contents (Elt F) → (⟨S131072x64, .f32⟩ : BufTy).Contents (Elt F)),
    nullary main_cst_0 (constant S_ .f32 0x00000000#32),
    binary main_v4 main_cst_0 main_v5 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    unary main_v5 main_v6 (broadcastInDim S131072x1 ![0] bcast_S131072_S131072x1_0 : (⟨S131072, .f32⟩ : BufTy).Contents (Elt F) → (⟨S131072x1, .f32⟩ : BufTy).Contents (Elt F)),
    nullary main_cst_1 (constant S_ .f32 0x40000000#32),
    unary main_cst_1 main_v7 (broadcastInDim S131072x64 ![] bcast_S_S131072x64 : (⟨S_, .f32⟩ : BufTy).Contents (Elt F) → (⟨S131072x64, .f32⟩ : BufTy).Contents (Elt F)),
    binary main_v7 main_v0 main_v8 (mulf : (⟨S131072x64, .f32⟩ : BufTy).Contents (Elt F) → (⟨S131072x64, .f32⟩ : BufTy).Contents (Elt F) → (⟨S131072x64, .f32⟩ : BufTy).Contents (Elt F)),
    unary main_v3 main_v9 ((transpose S64x512 [1, 0] · transposes_S512x64_S64x512_1_0) : (⟨S512x64, .f32⟩ : BufTy).Contents (Elt F) → (⟨S64x512, .f32⟩ : BufTy).Contents (Elt F)),
    binary main_v8 main_v9 main_v10 ((fun l r => Host.dotGeneral dot_S131072x64_S64x512_S131072x512_1_0_0_1_n_n none l r) : (⟨S131072x64, .f32⟩ : BufTy).Contents (Elt F) → (⟨S64x512, .f32⟩ : BufTy).Contents (Elt F) → (⟨S131072x512, .f32⟩ : BufTy).Contents (Elt F)),
    unary main_v6 main_v11 (broadcastInDim S131072x512 ![0, 1] bcast_S131072x1_S131072x512_0_1 : (⟨S131072x1, .f32⟩ : BufTy).Contents (Elt F) → (⟨S131072x512, .f32⟩ : BufTy).Contents (Elt F)),
    binary main_v11 main_v10 main_v12 (subf : (⟨S131072x512, .f32⟩ : BufTy).Contents (Elt F) → (⟨S131072x512, .f32⟩ : BufTy).Contents (Elt F) → (⟨S131072x512, .f32⟩ : BufTy).Contents (Elt F)),
    binary main_v3 main_v3 main_v13 (mulf : (⟨S512x64, .f32⟩ : BufTy).Contents (Elt F) → (⟨S512x64, .f32⟩ : BufTy).Contents (Elt F) → (⟨S512x64, .f32⟩ : BufTy).Contents (Elt F)),
    nullary main_cst_2 (constant S_ .f32 0x00000000#32),
    binary main_v13 main_cst_2 main_v14 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v14 main_v15 (broadcastInDim S1x512 ![1] bcast_S512_S1x512_1 : (⟨S512, .f32⟩ : BufTy).Contents (Elt F) → (⟨S1x512, .f32⟩ : BufTy).Contents (Elt F)),
    unary main_v15 main_v16 (broadcastInDim S131072x512 ![0, 1] bcast_S1x512_S131072x512_0_1 : (⟨S1x512, .f32⟩ : BufTy).Contents (Elt F) → (⟨S131072x512, .f32⟩ : BufTy).Contents (Elt F)),
    binary main_v12 main_v16 main_v17 (addf : (⟨S131072x512, .f32⟩ : BufTy).Contents (Elt F) → (⟨S131072x512, .f32⟩ : BufTy).Contents (Elt F) → (⟨S131072x512, .f32⟩ : BufTy).Contents (Elt F)) ]

/-- What part `dist0` writes. -/
abbrev wr_dist0 : List (Ref sig .tc) :=
  [main_v0, main_cst, main_v1, main_v2, main_v3, main_v4, main_cst_0, main_v5, main_v6, main_cst_1, main_v7, main_v8, main_v9, main_v10, main_v11, main_v12, main_v13, main_cst_2, main_v14, main_v15, main_v16, main_v17]

/-- Each operation of part `dist0` writes its result buffer. -/
theorem writes_dist0 : (ops_dist0 : List (HloOp τ sig (Elt F))).Forall fun op => op.writes ⊆ (wr_dist0.map (Proc.devRef (τ := τ) .tc)).toFinset :=
  forall_writes_sub_of_map rfl

/-- Each operation of part `dist0` touches TensorCore buffers only. -/
theorem sub_dist0 : (ops_dist0 : List (HloOp τ sig (Elt F))).Forall fun op => op.bufs ⊆ tcRefs τ sig :=
  ⟨reshape_bufs_sub .., nullary_bufs_sub .., unary_bufs_sub .., unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

/-- Each operation of part `dist0` determines its result. -/
theorem fresh_dist0 : (ops_dist0 : List (HloOp τ sig (Elt F))).Forall fun op => op.fresh = ∅ :=
  forall_fresh_of_map rfl

/-- The operations of part `arg0`, in order. -/
abbrev ops_arg0 : List (HloOp τ sig (Elt F)) :=
  [ nullary main_call0_v0 (iotaInDim S131072x512 32 1),
    nullary main_call0_cst (constant S_ .f32 0x7F800000#32),
    nullary main_call0_c (constantI S_ 32 0#32),
    quaternary main_v17 main_call0_v0 main_call0_cst main_call0_c main_call0_v1_0 (fun x y u v j => (Host.argReduce reducer_argmin_f32_i32 x y u v reducesTo_S131072x512_S131072_d1 h_S_ j).1),
    quaternary main_v17 main_call0_v0 main_call0_cst main_call0_c main_v18 (fun x y u v j => (Host.argReduce reducer_argmin_f32_i32 x y u v reducesTo_S131072x512_S131072_d1 h_S_ j).2) ]

/-- What part `arg0` writes. -/
abbrev wr_arg0 : List (Ref sig .tc) :=
  [main_call0_v0, main_call0_cst, main_call0_c, main_call0_v1_0, main_v18]

/-- Each operation of part `arg0` writes its result buffer. -/
theorem writes_arg0 : (ops_arg0 : List (HloOp τ sig (Elt F))).Forall fun op => op.writes ⊆ (wr_arg0.map (Proc.devRef (τ := τ) .tc)).toFinset :=
  forall_writes_sub_of_map rfl

/-- Each operation of part `arg0` touches TensorCore buffers only. -/
theorem sub_arg0 : (ops_arg0 : List (HloOp τ sig (Elt F))).Forall fun op => op.bufs ⊆ tcRefs τ sig :=
  ⟨nullary_bufs_sub .., nullary_bufs_sub .., nullary_bufs_sub .., quaternary_bufs_sub .., quaternary_bufs_sub ..⟩

/-- Each operation of part `arg0` determines its result. -/
theorem fresh_arg0 : (ops_arg0 : List (HloOp τ sig (Elt F))).Forall fun op => op.fresh = ∅ :=
  forall_fresh_of_map rfl

/-- The operations of part `take0`, in order. -/
abbrev ops_take0 : List (HloOp τ sig (Elt F)) :=
  [ nullary main_call1_c (constantI S_ 32 0#32),
    unary main_call1_c main_call1_v0 (broadcastInDim S131072 ![] bcast_S_S131072),
    binary main_v18 main_call1_v0 main_call1_v1 (cmpi .slt),
    nullary main_call1_c_0 (constantI S_ 32 512#32),
    unary main_call1_c_0 main_call1_v2 (broadcastInDim S131072 ![] bcast_S_S131072),
    binary main_v18 main_call1_v2 main_call1_v3 addi,
    ternary main_call1_v1 main_call1_v3 main_v18 main_call1_v4 select,
    unary main_call1_v4 main_call1_v5 (broadcastInDim S131072x1 ![0] bcast_S131072_S131072x1_0),
    nullary main_call1_c_1 (constantI S1 32 511#32),
    nullary main_call1_c_2 (constantI S_ 32 0#32),
    unary main_call1_c_2 main_call1_v6 (broadcastInDim S131072x1 ![] bcast_S_S131072x1),
    binary main_call1_v5 main_call1_v6 main_call1_v7 (cmpi .sge),
    unary main_call1_c_1 main_call1_v8 (broadcastInDim S1x1 ![1] bcast_S1_S1x1_1),
    unary main_call1_v8 main_call1_v9 (broadcastInDim S131072x1 ![0, 1] bcast_S1x1_S131072x1_0_1),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S131072x1_S131072_d1 h_S_),
    binary main_v3 main_call1_v5 main_call1_v13 (fun x i => Host.gather gather_S512x64_S131072x1_S131072x64_1_0_n_n_0_1_164 x i),
    unary main_call1_v12 main_call1_v14 (broadcastInDim S131072x64 ![0] bcast_S131072_S131072x64_0),
    nullary main_call1_cst (constant S_ .f32 0x7FC00000#32),
    unary main_call1_cst main_call1_v15 (broadcastInDim S131072x64 ![] bcast_S_S131072x64),
    ternary main_call1_v14 main_call1_v13 main_call1_v15 main_v19 select ]

/-- What part `take0` writes. -/
abbrev wr_take0 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v19]

/-- Each operation of part `take0` writes its result buffer. -/
theorem writes_take0 : (ops_take0 : List (HloOp τ sig (Elt F))).Forall fun op => op.writes ⊆ (wr_take0.map (Proc.devRef (τ := τ) .tc)).toFinset :=
  forall_writes_sub_of_map rfl

/-- Each operation of part `take0` touches TensorCore buffers only. -/
theorem sub_take0 : (ops_take0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Each operation of part `take0` determines its result. -/
theorem fresh_take0 : (ops_take0 : List (HloOp τ sig (Elt F))).Forall fun op => op.fresh = ∅ :=
  forall_fresh_of_map rfl

/-- The operations of part `mid`, in order. -/
abbrev ops_mid : List (HloOp τ sig (Elt F)) :=
  [ binary main_v1 main_v19 main_v20 (addf : (⟨S131072x64, .f32⟩ : BufTy).Contents (Elt F) → (⟨S131072x64, .f32⟩ : BufTy).Contents (Elt F) → (⟨S131072x64, .f32⟩ : BufTy).Contents (Elt F)),
    binary main_v19 main_v0 main_v21 (subf : (⟨S131072x64, .f32⟩ : BufTy).Contents (Elt F) → (⟨S131072x64, .f32⟩ : BufTy).Contents (Elt F) → (⟨S131072x64, .f32⟩ : BufTy).Contents (Elt F)),
    binary main_v21 main_v21 main_v22 (mulf : (⟨S131072x64, .f32⟩ : BufTy).Contents (Elt F) → (⟨S131072x64, .f32⟩ : BufTy).Contents (Elt F) → (⟨S131072x64, .f32⟩ : BufTy).Contents (Elt F)),
    nullary main_cst_3 (constant S_ .f32 0x00000000#32),
    binary main_v22 main_cst_3 main_v23 ((fun x v => Host.reduceAdd x v reducesTo_S131072x64_S_d0_1 h_S_) : (⟨S131072x64, .f32⟩ : BufTy).Contents (Elt F) → (⟨S_, .f32⟩ : BufTy).Contents (Elt F) → (⟨S_, .f32⟩ : BufTy).Contents (Elt F)),
    nullary main_cst_4 (constant S_ .f32 0x4B000000#32),
    binary main_v23 main_cst_4 main_v24 (Host.divf : (⟨S_, .f32⟩ : BufTy).Contents (Elt F) → (⟨S_, .f32⟩ : BufTy).Contents (Elt F) → (⟨S_, .f32⟩ : BufTy).Contents (Elt F)),
    nullary main_cst_5 (constant S_ .f32 0x00000000#32),
    binary main_cst_5 main_v24 main_v25 (addf : (⟨S_, .f32⟩ : BufTy).Contents (Elt F) → (⟨S_, .f32⟩ : BufTy).Contents (Elt F) → (⟨S_, .f32⟩ : BufTy).Contents (Elt F)),
    binary main_v0 main_v19 main_v26 (subf : (⟨S131072x64, .f32⟩ : BufTy).Contents (Elt F) → (⟨S131072x64, .f32⟩ : BufTy).Contents (Elt F) → (⟨S131072x64, .f32⟩ : BufTy).Contents (Elt F)),
    unary main_arg2 main_v27 ((extractStridedSlice S1x512x64 ![1, 0, 0] · slices_S2x512x64_S1x512x64_1_0_0) : (⟨S2x512x64, .f32⟩ : BufTy).Contents (Elt F) → (⟨S1x512x64, .f32⟩ : BufTy).Contents (Elt F)),
    reshape main_v27 main_v28 (rfl : (.f32 : EltTy) = .f32) shapeCasts_S1x512x64_S512x64,
    binary main_v26 main_v26 main_v29 (mulf : (⟨S131072x64, .f32⟩ : BufTy).Contents (Elt F) → (⟨S131072x64, .f32⟩ : BufTy).Contents (Elt F) → (⟨S131072x64, .f32⟩ : BufTy).Contents (Elt F)),
    nullary main_cst_6 (constant S_ .f32 0x00000000#32),
    binary main_v29 main_cst_6 main_v30 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    unary main_v30 main_v31 (broadcastInDim S131072x1 ![0] bcast_S131072_S131072x1_0 : (⟨S131072, .f32⟩ : BufTy).Contents (Elt F) → (⟨S131072x1, .f32⟩ : BufTy).Contents (Elt F)),
    nullary main_cst_7 (constant S_ .f32 0x40000000#32),
    unary main_cst_7 main_v32 (broadcastInDim S131072x64 ![] bcast_S_S131072x64 : (⟨S_, .f32⟩ : BufTy).Contents (Elt F) → (⟨S131072x64, .f32⟩ : BufTy).Contents (Elt F)),
    binary main_v32 main_v26 main_v33 (mulf : (⟨S131072x64, .f32⟩ : BufTy).Contents (Elt F) → (⟨S131072x64, .f32⟩ : BufTy).Contents (Elt F) → (⟨S131072x64, .f32⟩ : BufTy).Contents (Elt F)),
    unary main_v28 main_v34 ((transpose S64x512 [1, 0] · transposes_S512x64_S64x512_1_0) : (⟨S512x64, .f32⟩ : BufTy).Contents (Elt F) → (⟨S64x512, .f32⟩ : BufTy).Contents (Elt F)),
    binary main_v33 main_v34 main_v35 ((fun l r => Host.dotGeneral dot_S131072x64_S64x512_S131072x512_1_0_0_1_n_n none l r) : (⟨S131072x64, .f32⟩ : BufTy).Contents (Elt F) → (⟨S64x512, .f32⟩ : BufTy).Contents (Elt F) → (⟨S131072x512, .f32⟩ : BufTy).Contents (Elt F)),
    unary main_v31 main_v36 (broadcastInDim S131072x512 ![0, 1] bcast_S131072x1_S131072x512_0_1 : (⟨S131072x1, .f32⟩ : BufTy).Contents (Elt F) → (⟨S131072x512, .f32⟩ : BufTy).Contents (Elt F)),
    binary main_v36 main_v35 main_v37 (subf : (⟨S131072x512, .f32⟩ : BufTy).Contents (Elt F) → (⟨S131072x512, .f32⟩ : BufTy).Contents (Elt F) → (⟨S131072x512, .f32⟩ : BufTy).Contents (Elt F)),
    binary main_v28 main_v28 main_v38 (mulf : (⟨S512x64, .f32⟩ : BufTy).Contents (Elt F) → (⟨S512x64, .f32⟩ : BufTy).Contents (Elt F) → (⟨S512x64, .f32⟩ : BufTy).Contents (Elt F)),
    nullary main_cst_8 (constant S_ .f32 0x00000000#32),
    binary main_v38 main_cst_8 main_v39 ((fun x v => Host.reduceAdd x v reducesTo_S512x64_S512_d1 h_S_) : (⟨S512x64, .f32⟩ : BufTy).Contents (Elt F) → (⟨S_, .f32⟩ : BufTy).Contents (Elt F) → (⟨S512, .f32⟩ : BufTy).Contents (Elt F)),
    unary main_v39 main_v40 (broadcastInDim S1x512 ![1] bcast_S512_S1x512_1 : (⟨S512, .f32⟩ : BufTy).Contents (Elt F) → (⟨S1x512, .f32⟩ : BufTy).Contents (Elt F)),
    unary main_v40 main_v41 (broadcastInDim S131072x512 ![0, 1] bcast_S1x512_S131072x512_0_1 : (⟨S1x512, .f32⟩ : BufTy).Contents (Elt F) → (⟨S131072x512, .f32⟩ : BufTy).Contents (Elt F)),
    binary main_v37 main_v41 main_v42 (addf : (⟨S131072x512, .f32⟩ : BufTy).Contents (Elt F) → (⟨S131072x512, .f32⟩ : BufTy).Contents (Elt F) → (⟨S131072x512, .f32⟩ : BufTy).Contents (Elt F)) ]

/-- What part `mid` writes. -/
abbrev wr_mid : List (Ref sig .tc) :=
  [main_v20, main_v21, main_v22, main_cst_3, main_v23, main_cst_4, main_v24, main_cst_5, main_v25, main_v26, main_v27, main_v28, main_v29, main_cst_6, main_v30, main_v31, main_cst_7, main_v32, main_v33, main_v34, main_v35, main_v36, main_v37, main_v38, main_cst_8, main_v39, main_v40, main_v41, main_v42]

/-- Each operation of part `mid` writes its result buffer. -/
theorem writes_mid : (ops_mid : List (HloOp τ sig (Elt F))).Forall fun op => op.writes ⊆ (wr_mid.map (Proc.devRef (τ := τ) .tc)).toFinset :=
  forall_writes_sub_of_map rfl

/-- Each operation of part `mid` touches TensorCore buffers only. -/
theorem sub_mid : (ops_mid : List (HloOp τ sig (Elt F))).Forall fun op => op.bufs ⊆ tcRefs τ sig :=
  ⟨binary_bufs_sub .., binary_bufs_sub .., binary_bufs_sub .., nullary_bufs_sub .., binary_bufs_sub .., nullary_bufs_sub .., binary_bufs_sub .., nullary_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

/-- Each operation of part `mid` determines its result. -/
theorem fresh_mid : (ops_mid : List (HloOp τ sig (Elt F))).Forall fun op => op.fresh = ∅ :=
  forall_fresh_of_map rfl

/-- The operations of part `arg1`, in order. -/
abbrev ops_arg1 : List (HloOp τ sig (Elt F)) :=
  [ nullary main_call2_v0 (iotaInDim S131072x512 32 1),
    nullary main_call2_cst (constant S_ .f32 0x7F800000#32),
    nullary main_call2_c (constantI S_ 32 0#32),
    quaternary main_v42 main_call2_v0 main_call2_cst main_call2_c main_call2_v1_0 (fun x y u v j => (Host.argReduce reducer_argmin_f32_i32 x y u v reducesTo_S131072x512_S131072_d1 h_S_ j).1),
    quaternary main_v42 main_call2_v0 main_call2_cst main_call2_c main_v43 (fun x y u v j => (Host.argReduce reducer_argmin_f32_i32 x y u v reducesTo_S131072x512_S131072_d1 h_S_ j).2) ]

/-- What part `arg1` writes. -/
abbrev wr_arg1 : List (Ref sig .tc) :=
  [main_call2_v0, main_call2_cst, main_call2_c, main_call2_v1_0, main_v43]

/-- Each operation of part `arg1` writes its result buffer. -/
theorem writes_arg1 : (ops_arg1 : List (HloOp τ sig (Elt F))).Forall fun op => op.writes ⊆ (wr_arg1.map (Proc.devRef (τ := τ) .tc)).toFinset :=
  forall_writes_sub_of_map rfl

/-- Each operation of part `arg1` touches TensorCore buffers only. -/
theorem sub_arg1 : (ops_arg1 : List (HloOp τ sig (Elt F))).Forall fun op => op.bufs ⊆ tcRefs τ sig :=
  ⟨nullary_bufs_sub .., nullary_bufs_sub .., nullary_bufs_sub .., quaternary_bufs_sub .., quaternary_bufs_sub ..⟩

/-- Each operation of part `arg1` determines its result. -/
theorem fresh_arg1 : (ops_arg1 : List (HloOp τ sig (Elt F))).Forall fun op => op.fresh = ∅ :=
  forall_fresh_of_map rfl

/-- The operations of part `take1`, in order. -/
abbrev ops_take1 : List (HloOp τ sig (Elt F)) :=
  [ nullary main_call3_c (constantI S_ 32 0#32),
    unary main_call3_c main_call3_v0 (broadcastInDim S131072 ![] bcast_S_S131072),
    binary main_v43 main_call3_v0 main_call3_v1 (cmpi .slt),
    nullary main_call3_c_0 (constantI S_ 32 512#32),
    unary main_call3_c_0 main_call3_v2 (broadcastInDim S131072 ![] bcast_S_S131072),
    binary main_v43 main_call3_v2 main_call3_v3 addi,
    ternary main_call3_v1 main_call3_v3 main_v43 main_call3_v4 select,
    unary main_call3_v4 main_call3_v5 (broadcastInDim S131072x1 ![0] bcast_S131072_S131072x1_0),
    nullary main_call3_c_1 (constantI S1 32 511#32),
    nullary main_call3_c_2 (constantI S_ 32 0#32),
    unary main_call3_c_2 main_call3_v6 (broadcastInDim S131072x1 ![] bcast_S_S131072x1),
    binary main_call3_v5 main_call3_v6 main_call3_v7 (cmpi .sge),
    unary main_call3_c_1 main_call3_v8 (broadcastInDim S1x1 ![1] bcast_S1_S1x1_1),
    unary main_call3_v8 main_call3_v9 (broadcastInDim S131072x1 ![0, 1] bcast_S1x1_S131072x1_0_1),
    binary main_call3_v5 main_call3_v9 main_call3_v10 (cmpi .sle),
    binary main_call3_v7 main_call3_v10 main_call3_v11 andi,
    nullary main_call3_c_3 (constantI S_ 1 1#1),
    binary main_call3_v11 main_call3_c_3 main_call3_v12 (fun x v => Host.reduce IntOp.andi x v reducesTo_S131072x1_S131072_d1 h_S_),
    binary main_v28 main_call3_v5 main_call3_v13 (fun x i => Host.gather gather_S512x64_S131072x1_S131072x64_1_0_n_n_0_1_164 x i),
    unary main_call3_v12 main_call3_v14 (broadcastInDim S131072x64 ![0] bcast_S131072_S131072x64_0),
    nullary main_call3_cst (constant S_ .f32 0x7FC00000#32),
    unary main_call3_cst main_call3_v15 (broadcastInDim S131072x64 ![] bcast_S_S131072x64),
    ternary main_call3_v14 main_call3_v13 main_call3_v15 main_v44 select ]

/-- What part `take1` writes. -/
abbrev wr_take1 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v44]

/-- Each operation of part `take1` writes its result buffer. -/
theorem writes_take1 : (ops_take1 : List (HloOp τ sig (Elt F))).Forall fun op => op.writes ⊆ (wr_take1.map (Proc.devRef (τ := τ) .tc)).toFinset :=
  forall_writes_sub_of_map rfl

/-- Each operation of part `take1` touches TensorCore buffers only. -/
theorem sub_take1 : (ops_take1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Each operation of part `take1` determines its result. -/
theorem fresh_take1 : (ops_take1 : List (HloOp τ sig (Elt F))).Forall fun op => op.fresh = ∅ :=
  forall_fresh_of_map rfl

/-- The operations of part `tail`, in order. -/
abbrev ops_tail : List (HloOp τ sig (Elt F)) :=
  [ binary main_v20 main_v44 main_v45 (addf : (⟨S131072x64, .f32⟩ : BufTy).Contents (Elt F) → (⟨S131072x64, .f32⟩ : BufTy).Contents (Elt F) → (⟨S131072x64, .f32⟩ : BufTy).Contents (Elt F)),
    binary main_v44 main_v26 main_v46 (subf : (⟨S131072x64, .f32⟩ : BufTy).Contents (Elt F) → (⟨S131072x64, .f32⟩ : BufTy).Contents (Elt F) → (⟨S131072x64, .f32⟩ : BufTy).Contents (Elt F)),
    binary main_v46 main_v46 main_v47 (mulf : (⟨S131072x64, .f32⟩ : BufTy).Contents (Elt F) → (⟨S131072x64, .f32⟩ : BufTy).Contents (Elt F) → (⟨S131072x64, .f32⟩ : BufTy).Contents (Elt F)),
    nullary main_cst_9 (constant S_ .f32 0x00000000#32),
    binary main_v47 main_cst_9 main_v48 ((fun x v => Host.reduceAdd x v reducesTo_S131072x64_S_d0_1 h_S_) : (⟨S131072x64, .f32⟩ : BufTy).Contents (Elt F) → (⟨S_, .f32⟩ : BufTy).Contents (Elt F) → (⟨S_, .f32⟩ : BufTy).Contents (Elt F)),
    nullary main_cst_10 (constant S_ .f32 0x4B000000#32),
    binary main_v48 main_cst_10 main_v49 (Host.divf : (⟨S_, .f32⟩ : BufTy).Contents (Elt F) → (⟨S_, .f32⟩ : BufTy).Contents (Elt F) → (⟨S_, .f32⟩ : BufTy).Contents (Elt F)),
    binary main_v25 main_v49 main_v50 (addf : (⟨S_, .f32⟩ : BufTy).Contents (Elt F) → (⟨S_, .f32⟩ : BufTy).Contents (Elt F) → (⟨S_, .f32⟩ : BufTy).Contents (Elt F)),
    binary main_v26 main_v44 main_v51 (subf : (⟨S131072x64, .f32⟩ : BufTy).Contents (Elt F) → (⟨S131072x64, .f32⟩ : BufTy).Contents (Elt F) → (⟨S131072x64, .f32⟩ : BufTy).Contents (Elt F)),
    binary main_v45 main_v0 main_v52 (subf : (⟨S131072x64, .f32⟩ : BufTy).Contents (Elt F) → (⟨S131072x64, .f32⟩ : BufTy).Contents (Elt F) → (⟨S131072x64, .f32⟩ : BufTy).Contents (Elt F)),
    binary main_v0 main_v52 main_v53 (addf : (⟨S131072x64, .f32⟩ : BufTy).Contents (Elt F) → (⟨S131072x64, .f32⟩ : BufTy).Contents (Elt F) → (⟨S131072x64, .f32⟩ : BufTy).Contents (Elt F)),
    reshape main_v53 main_v54 (rfl : (.f32 : EltTy) = .f32) shapeCasts_S131072x64_S8x16384x64 ]

/-- What part `tail` writes. -/
abbrev wr_tail : List (Ref sig .tc) :=
  [main_v45, main_v46, main_v47, main_cst_9, main_v48, main_cst_10, main_v49, main_v50, main_v51, main_v52, main_v53, main_v54]

/-- Each operation of part `tail` writes its result buffer. -/
theorem writes_tail : (ops_tail : List (HloOp τ sig (Elt F))).Forall fun op => op.writes ⊆ (wr_tail.map (Proc.devRef (τ := τ) .tc)).toFinset :=
  forall_writes_sub_of_map rfl

/-- Each operation of part `tail` touches TensorCore buffers only. -/
theorem sub_tail : (ops_tail : List (HloOp τ sig (Elt F))).Forall fun op => op.bufs ⊆ tcRefs τ sig :=
  ⟨binary_bufs_sub .., binary_bufs_sub .., binary_bufs_sub .., nullary_bufs_sub .., binary_bufs_sub .., nullary_bufs_sub .., binary_bufs_sub .., binary_bufs_sub .., binary_bufs_sub .., binary_bufs_sub .., binary_bufs_sub .., reshape_bufs_sub ..⟩

/-- Each operation of part `tail` determines its result. -/
theorem fresh_tail : (ops_tail : List (HloOp τ sig (Elt F))).Forall fun op => op.fresh = ∅ :=
  forall_fresh_of_map rfl

/-- Every operation of the program, in order. -/
abbrev ops : List (HloOp τ sig (Elt F)) :=
  (ops_dist0 ++ (ops_arg0 ++ (ops_take0 ++ (ops_mid ++ (ops_arg1 ++ (ops_take1 ++ ops_tail))))))

/-- The first call of the arg-min function is its part of the line. -/
theorem call_arg0 : fn_argmin.body (F := F) (.of main_v17) main_call0 = seq ops_arg0 := rfl

/-- The second call of the arg-min function is its part of the line. -/
theorem call_arg1 : fn_argmin.body (F := F) (.of main_v42) main_call2 = seq ops_arg1 := rfl

/-- The first call of the row-taking function is its part of the line. -/
theorem call_take0 : fn_take.body (F := F) (.of main_v3) (.of main_v18) main_call1 = seq ops_take0 := rfl

/-- The second call of the row-taking function is its part of the line. -/
theorem call_take1 : fn_take.body (F := F) (.of main_v28) (.of main_v43) main_call3 = seq ops_take1 := rfl

set_option maxHeartbeats 4000000 in
/-- The first sixty statements of the program: three straight stretches around the four calls. -/
theorem part0_eq (c : Dev nD) : main_part0 (F := F) c = seqK ops_dist0 (fn_argmin.body (.of main_v17) main_call0 >>= fun _ =>
      fn_take.body (.of main_v3) (.of main_v18) main_call1 >>= fun _ => seqK ops_mid (
      fn_argmin.body (.of main_v42) main_call2 >>= fun _ => fn_take.body (.of main_v28) (.of main_v43) main_call3 >>= fun _ =>
      seq (ops_tail.take 5))) := rfl

set_option maxHeartbeats 4000000 in
/-- The remaining statements of the program. -/
theorem part1_eq (c : Dev nD) : main_part1 (F := F) c = seq (ops_tail.drop 5) := rfl

/-- The last part is its first five operations, then the rest. -/
theorem tail_split : (ops_tail : List (HloOp τ sig (Elt F))) = ops_tail.take 5 ++ ops_tail.drop 5 := (List.take_append_drop 5 _).symm

/-- The program is that line of operations. -/
theorem main_eq (c : Dev nD) : main (F := F) c = seq ops := by
  unfold main
  rw [part0_eq, part1_eq, call_arg0, call_take0, call_arg1, call_take1, ops]
  conv_rhs => rw [tail_split]
  simp only [← seq_bind_seqK, seq_append, bind_assoc]

end Cert.ReferenceIdeal.Run

end
-- ==== Proof.RI.Run.lean ====
/- The run of the reference program: what its two results hold, as terms of its arguments, and that its arguments are unchanged. -/
module

public import proofs.«01_k».proof.Proof.RI.Ops
public import Idealize.ShloMosaic.Lib.Pipeline.Frame

@[expose] public section

set_option maxRecDepth 65536
set_option maxHeartbeats 1000000

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-! ## The reference's functions -/

/-- The latents as rows. -/
def flat (x : FVec F S8x16384x64 .f32) : FVec F S131072x64 .f32 := shapeCast S131072x64 x shapeCasts_S8x16384x64_S131072x64

/-- The first codebook. -/
def book0 (x : FVec F S2x512x64 .f32) : FVec F S512x64 .f32 :=
  shapeCast S512x64 (extractStridedSlice S1x512x64 ![0, 0, 0] x slices_S2x512x64_S1x512x64_0_0_0) shapeCasts_S1x512x64_S512x64

/-- The second codebook. -/
def book1 (x : FVec F S2x512x64 .f32) : FVec F S512x64 .f32 :=
  shapeCast S512x64 (extractStridedSlice S1x512x64 ![1, 0, 0] x slices_S2x512x64_S1x512x64_1_0_0) shapeCasts_S1x512x64_S512x64

/-- The row sums of the squares of `r`. -/
def rowSq (r : FVec F S131072x64 .f32) : FVec F S131072 .f32 :=
  Host.reduceAdd (mulf r r) (constant S_ .f32 0x00000000#32) reducesTo_S131072x64_S131072_d1 h_S_

/-- The squared lengths of the codes. -/
def codeSq (b : FVec F S512x64 .f32) : FVec F S512 .f32 :=
  Host.reduceAdd (mulf b b) (constant S_ .f32 0x00000000#32) reducesTo_S512x64_S512_d1 h_S_

/-- Twice the products of the rows with the codes. -/
def cross (r : FVec F S131072x64 .f32) (b : FVec F S512x64 .f32) : FVec F S131072x512 .f32 :=
  Host.dotGeneral dot_S131072x64_S64x512_S131072x512_1_0_0_1_n_n none
    (mulf (broadcastInDim S131072x64 ![] bcast_S_S131072x64 (constant S_ .f32 0x40000000#32)) r)
    (transpose S64x512 [1, 0] b transposes_S512x64_S64x512_1_0)

/-- The distances of the rows to the codes. -/
def dist (r : FVec F S131072x64 .f32) (b : FVec F S512x64 .f32) : FVec F S131072x512 .f32 :=
  addf (subf (broadcastInDim S131072x512 ![0, 1] bcast_S131072x1_S131072x512_0_1
      (broadcastInDim S131072x1 ![0] bcast_S131072_S131072x1_0 (rowSq r))) (cross r b))
    (broadcastInDim S131072x512 ![0, 1] bcast_S1x512_S131072x512_0_1 (broadcastInDim S1x512 ![1] bcast_S512_S1x512_1 (codeSq b)))

/-- The index of the nearest code of each row. -/
def nearest (d : FVec F S131072x512 .f32) : IVec S131072 32 := fun j =>
  (Host.argReduce reducer_argmin_f32_i32 d (iotaInDim S131072x512 32 1) (constant S_ .f32 0x7F800000#32) (constantI S_ 32 0#32)
    reducesTo_S131072x512_S131072_d1 h_S_ j).2

/-- An index below zero, wrapped around once, as a column. -/
def wrapped (i : IVec S131072 32) : IVec S131072x1 32 :=
  broadcastInDim S131072x1 ![0] bcast_S131072_S131072x1_0
    (select (cmpi .slt i (broadcastInDim S131072 ![] bcast_S_S131072 (constantI S_ 32 0#32)))
      (addi i (broadcastInDim S131072 ![] bcast_S_S131072 (constantI S_ 32 512#32))) i)

/-- Whether an index names a row of the codebook. -/
def inside (w : IVec S131072x1 32) : IVec S131072 1 :=
  Host.reduce IntOp.andi
    (andi (cmpi .sge w (broadcastInDim S131072x1 ![] bcast_S_S131072x1 (constantI S_ 32 0#32)))
      (cmpi .sle w (broadcastInDim S131072x1 ![0, 1] bcast_S1x1_S131072x1_0_1 (broadcastInDim S1x1 ![1] bcast_S1_S1x1_1 (constantI S1 32 511#32)))))
    (constantI S_ 1 1#1) reducesTo_S131072x1_S131072_d1 h_S_

/-- The rows of the codebook that the indices name. -/
def rows (b : FVec F S512x64 .f32) (i : IVec S131072 32) : FVec F S131072x64 .f32 :=
  select (broadcastInDim S131072x64 ![0] bcast_S131072_S131072x64_0 (inside (wrapped i)))
    (Host.gather gather_S512x64_S131072x1_S131072x64_1_0_n_n_0_1_164 b (wrapped i))
    (broadcastInDim S131072x64 ![] bcast_S_S131072x64 (constant S_ .f32 0x7FC00000#32))

/-- The codes chosen for the rows `r` out of the codebook `b`. -/
def chosen (r : FVec F S131072x64 .f32) (b : FVec F S512x64 .f32) : FVec F S131072x64 .f32 := rows b (nearest (dist r b))

/-- The mean squared difference of two arrays of rows. -/
def meanSq (q r : FVec F S131072x64 .f32) : FVec F S_ .f32 :=
  Host.divf (Host.reduceAdd (mulf (subf q r) (subf q r)) (constant S_ .f32 0x00000000#32) reducesTo_S131072x64_S_d0_1 h_S_)
    (constant S_ .f32 0x4B000000#32)

/-- The rows with their distance to the sum of the chosen codes added back. -/
def straight (x q0 q1 : FVec F S131072x64 .f32) : FVec F S8x16384x64 .f32 :=
  shapeCast S8x16384x64
    (addf x (subf (addf (addf (broadcastInDim S131072x64 ![] bcast_S_S131072x64 (constant S_ .f32 0x00000000#32)) q0) q1) x))
    shapeCasts_S131072x64_S8x16384x64

/-- The first stage's chosen codes. -/
def q0 (x : FVec F S8x16384x64 .f32) (cb : FVec F S2x512x64 .f32) : FVec F S131072x64 .f32 := chosen (flat x) (book0 cb)

/-- What the first stage leaves. -/
def left1 (x : FVec F S8x16384x64 .f32) (cb : FVec F S2x512x64 .f32) : FVec F S131072x64 .f32 := subf (flat x) (q0 x cb)

/-- The second stage's chosen codes. -/
def q1 (x : FVec F S8x16384x64 .f32) (cb : FVec F S2x512x64 .f32) : FVec F S131072x64 .f32 := chosen (left1 x cb) (book1 cb)

/-- The quantised latents. -/
def quantised (x : FVec F S8x16384x64 .f32) (cb : FVec F S2x512x64 .f32) : FVec F S8x16384x64 .f32 :=
  straight (flat x) (q0 x cb) (q1 x cb)

/-- The loss. -/
def loss (x : FVec F S8x16384x64 .f32) (cb : FVec F S2x512x64 .f32) : FVec F S_ .f32 :=
  addf (addf (constant S_ .f32 0x00000000#32) (meanSq (q0 x cb) (flat x))) (meanSq (q1 x cb) (left1 x cb))

/-! ## Reading the parts -/

variable (V : Valuation τ sig (Elt F))

/-- The first part leaves the first stage's distances. -/
theorem dist0_v17 : after ops_dist0 V (main_v17 : DevRef τ sig)
    = dist (flat (V (main_arg0 : DevRef τ sig))) (book0 (V (main_arg2 : DevRef τ sig))) := by
  after_results_simp
  rfl

/-- The first part leaves the rows. -/
theorem dist0_v0 : after ops_dist0 V (main_v0 : DevRef τ sig) = flat (V (main_arg0 : DevRef τ sig)) := by
  after_results_simp
  rfl

/-- The first part leaves an array of zeros. -/
theorem dist0_v1 : after ops_dist0 V (main_v1 : DevRef τ sig)
    = broadcastInDim S131072x64 ![] bcast_S_S131072x64 (constant (F := F) S_ .f32 0x00000000#32) := by
  after_results_simp

/-- The first part leaves the first codebook. -/
theorem dist0_v3 : after ops_dist0 V (main_v3 : DevRef τ sig) = book0 (V (main_arg2 : DevRef τ sig)) := by
  after_results_simp
  rfl

/-- The first choice. -/
theorem arg0_v18 : after ops_arg0 V (main_v18 : DevRef τ sig) = nearest (V (main_v17 : DevRef τ sig)) := by
  after_results_simp
  rfl

/-- The first choice's rows. -/
theorem take0_v19 : after ops_take0 V (main_v19 : DevRef τ sig)
    = rows (V (main_v3 : DevRef τ sig)) (V (main_v18 : DevRef τ sig)) := by
  after_results_simp
  rfl

/-- The middle part leaves the second stage's distances. -/
theorem mid_v42 : after ops_mid V (main_v42 : DevRef τ sig)
    = dist (subf (V (main_v0 : DevRef τ sig)) (V (main_v19 : DevRef τ sig))) (book1 (V (main_arg2 : DevRef τ sig))) := by
  after_results_simp
  rfl

/-- The middle part leaves the sum of the codes so far. -/
theorem mid_v20 : after ops_mid V (main_v20 : DevRef τ sig)
    = addf (V (main_v1 : DevRef τ sig)) (V (main_v19 : DevRef τ sig)) := by
  after_results_simp

/-- The middle part leaves what the first stage leaves. -/
theorem mid_v26 : after ops_mid V (main_v26 : DevRef τ sig)
    = subf (V (main_v0 : DevRef τ sig)) (V (main_v19 : DevRef τ sig)) := by
  after_results_simp

/-- The middle part leaves the second codebook. -/
theorem mid_v28 : after ops_mid V (main_v28 : DevRef τ sig) = book1 (V (main_arg2 : DevRef τ sig)) := by
  after_results_simp
  rfl

/-- The middle part leaves the first stage's loss. -/
theorem mid_v25 : after ops_mid V (main_v25 : DevRef τ sig)
    = addf (constant S_ .f32 0x00000000#32) (meanSq (V (main_v19 : DevRef τ sig)) (V (main_v0 : DevRef τ sig))) := by
  after_results_simp
  rfl

/-- The second choice. -/
theorem arg1_v43 : after ops_arg1 V (main_v43 : DevRef τ sig) = nearest (V (main_v42 : DevRef τ sig)) := by
  after_results_simp
  rfl

/-- The second choice's rows. -/
theorem take1_v44 : after ops_take1 V (main_v44 : DevRef τ sig)
    = rows (V (main_v28 : DevRef τ sig)) (V (main_v43 : DevRef τ sig)) := by
  after_results_simp
  rfl

/-- The last part leaves the quantised latents. -/
theorem tail_v54 : after ops_tail V (main_v54 : DevRef τ sig)
    = shapeCast S8x16384x64 (addf (V (main_v0 : DevRef τ sig)) (subf (addf (V (main_v20 : DevRef τ sig)) (V (main_v44 : DevRef τ sig)))
        (V (main_v0 : DevRef τ sig)))) shapeCasts_S131072x64_S8x16384x64 := by
  after_results_simp
  rfl

/-- The last part leaves the loss. -/
theorem tail_v50 : after ops_tail V (main_v50 : DevRef τ sig)
    = addf (V (main_v25 : DevRef τ sig)) (meanSq (V (main_v44 : DevRef τ sig)) (V (main_v26 : DevRef τ sig))) := by
  after_results_simp
  rfl

/-! ## What a part keeps -/

/-- The first part keeps what it does not write. -/
theorem dist0_of {r : Ref sig .tc} (h : r ∉ wr_dist0) : after ops_dist0 V (Proc.devRef .tc r) = V (Proc.devRef .tc r) :=
  after_of_writes_sub _ V writes_dist0 h
/-- The first choice keeps what it does not write. -/
theorem arg0_of {r : Ref sig .tc} (h : r ∉ wr_arg0) : after ops_arg0 V (Proc.devRef .tc r) = V (Proc.devRef .tc r) :=
  after_of_writes_sub _ V writes_arg0 h
/-- Taking the first rows keeps what it does not write. -/
theorem take0_of {r : Ref sig .tc} (h : r ∉ wr_take0) : after ops_take0 V (Proc.devRef .tc r) = V (Proc.devRef .tc r) :=
  after_of_writes_sub _ V writes_take0 h
/-- The middle part keeps what it does not write. -/
theorem mid_of {r : Ref sig .tc} (h : r ∉ wr_mid) : after ops_mid V (Proc.devRef .tc r) = V (Proc.devRef .tc r) :=
  after_of_writes_sub _ V writes_mid h
/-- The second choice keeps what it does not write. -/
theorem arg1_of {r : Ref sig .tc} (h : r ∉ wr_arg1) : after ops_arg1 V (Proc.devRef .tc r) = V (Proc.devRef .tc r) :=
  after_of_writes_sub _ V writes_arg1 h
/-- Taking the second rows keeps what it does not write. -/
theorem take1_of {r : Ref sig .tc} (h : r ∉ wr_take1) : after ops_take1 V (Proc.devRef .tc r) = V (Proc.devRef .tc r) :=
  after_of_writes_sub _ V writes_take1 h
/-- The last part keeps what it does not write. -/
theorem tail_of {r : Ref sig .tc} (h : r ∉ wr_tail) : after ops_tail V (Proc.devRef .tc r) = V (Proc.devRef .tc r) :=
  after_of_writes_sub _ V writes_tail h

/-! ## The whole line -/

/-- The contents after the first stage's choice and its rows. -/
def W0 : Valuation τ sig (Elt F) := after ops_take0 (after ops_arg0 (after ops_dist0 V))

/-- The contents after the second stage's choice and its rows. -/
def W1 : Valuation τ sig (Elt F) := after ops_take1 (after ops_arg1 (after ops_mid (W0 V)))

/-- The whole line is its parts in order. -/
theorem after_ops : after ops V = after ops_tail (W1 V) := by
  simp only [ops, W1, W0, StableHlo.after_append]

/-- A buffer that no part of the first stage writes. -/
theorem W0_of {r : Ref sig .tc} (h : r ∉ wr_dist0) (h' : r ∉ wr_arg0) (h'' : r ∉ wr_take0) :
    W0 V (Proc.devRef .tc r) = V (Proc.devRef .tc r) := by
  rw [W0, take0_of _ h'', arg0_of _ h', dist0_of _ h]

/-- A buffer that no part of the second stage writes. -/
theorem W1_of {r : Ref sig .tc} (h : r ∉ wr_mid) (h' : r ∉ wr_arg1) (h'' : r ∉ wr_take1) :
    W1 V (Proc.devRef .tc r) = W0 V (Proc.devRef .tc r) := by
  rw [W1, take1_of _ h'', arg1_of _ h', mid_of _ h]

/-- The rows after the first stage. -/
theorem W0_v0 : W0 V (main_v0 : DevRef τ sig) = flat (V (main_arg0 : DevRef τ sig)) := by
  rw [W0, take0_of _ (by decide), arg0_of _ (by decide), dist0_v0]

/-- The zeros after the first stage. -/
theorem W0_v1 : W0 V (main_v1 : DevRef τ sig)
    = broadcastInDim S131072x64 ![] bcast_S_S131072x64 (constant (F := F) S_ .f32 0x00000000#32) := by
  rw [W0, take0_of _ (by decide), arg0_of _ (by decide), dist0_v1]

/-- The first stage's codes. -/
theorem W0_v19 : W0 V (main_v19 : DevRef τ sig) = q0 (V (main_arg0 : DevRef τ sig)) (V (main_arg2 : DevRef τ sig)) := by
  rw [W0, take0_v19, arg0_v18, arg0_of _ (r := main_v3) (by decide), dist0_v3, dist0_v17]
  rfl

/-- The codebooks after the first stage. -/
theorem W0_arg2 : W0 V (main_arg2 : DevRef τ sig) = V (main_arg2 : DevRef τ sig) :=
  W0_of V (by decide) (by decide) (by decide)

/-- What the first stage leaves. -/
theorem W1_v26 : W1 V (main_v26 : DevRef τ sig) = left1 (V (main_arg0 : DevRef τ sig)) (V (main_arg2 : DevRef τ sig)) := by
  rw [W1, take1_of _ (by decide), arg1_of _ (by decide), mid_v26, W0_v0, W0_v19]
  rfl

/-- The second stage's codes. -/
theorem W1_v44 : W1 V (main_v44 : DevRef τ sig) = q1 (V (main_arg0 : DevRef τ sig)) (V (main_arg2 : DevRef τ sig)) := by
  rw [W1, take1_v44, arg1_v43, arg1_of _ (r := main_v28) (by decide), mid_v28, mid_v42, W0_v0, W0_v19, W0_arg2]
  rfl

/-- The quantised latents at the end. -/
theorem after_v54 : after ops V (main_v54 : DevRef τ sig) = quantised (V (main_arg0 : DevRef τ sig)) (V (main_arg2 : DevRef τ sig)) := by
  rw [after_ops, tail_v54, W1_v44, W1_of _ (r := main_v0) (by decide) (by decide) (by decide), W0_v0,
    show W1 V (main_v20 : DevRef τ sig) = _ by rw [W1, take1_of _ (by decide), arg1_of _ (by decide), mid_v20, W0_v1, W0_v19]]
  rfl

/-- The loss at the end. -/
theorem after_v50 : after ops V (main_v50 : DevRef τ sig) = loss (V (main_arg0 : DevRef τ sig)) (V (main_arg2 : DevRef τ sig)) := by
  rw [after_ops, tail_v50, W1_v44, W1_v26,
    show W1 V (main_v25 : DevRef τ sig) = _ by rw [W1, take1_of _ (by decide), arg1_of _ (by decide), mid_v25, W0_v0, W0_v19]]
  rfl

/-- A buffer that nothing writes keeps its contents. -/
theorem after_of {r : Ref sig .tc} (h : r ∉ wr_dist0 ++ (wr_arg0 ++ (wr_take0 ++ (wr_mid ++ (wr_arg1 ++ (wr_take1 ++ wr_tail)))))) :
    after ops V (Proc.devRef .tc r) = V (Proc.devRef .tc r) := by
  simp only [List.mem_append, not_or] at h
  rw [after_ops, tail_of _ h.2.2.2.2.2.2, W1_of _ h.2.2.2.1 h.2.2.2.2.1 h.2.2.2.2.2.1, W0_of _ h.1 h.2.1 h.2.2.1]

/-- Nothing is scoped here: no buffer, -/
theorem scopedRefs_eq : (Finset.univ.filter fun b : Ref sig .tc => b.isScoped) = ∅ := by decide +kernel
/-- and no semaphore. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig := by
  simp only [List.forall_append, ops]
  exact ⟨sub_dist0, sub_arg0, sub_take0, sub_mid, sub_arg1, sub_take1, sub_tail⟩

/-- Every operation determines its result. -/
theorem ops_fresh : (ops : List (HloOp τ sig (Elt F))).Forall fun op => op.fresh = ∅ := by
  simp only [List.forall_append, ops]
  exact ⟨fresh_dist0, fresh_arg0, fresh_take0, fresh_mid, fresh_arg1, fresh_take1, fresh_tail⟩

/-- The reference runs to an end, its two results the quantised latents and the loss of its arguments, its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
        = quantised (m ((c.tc : Thread nD τ).loc main_arg0)) (m ((c.tc : Thread nD τ).loc main_arg2))
      ∧ r.2.mem ((c.tc : Thread nD τ).loc main_v50)
        = loss (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v54).trans (after_v54 _), (h c main_v50).trans (after_v50 _),
      (h c main_arg0).trans (after_of _ (by decide)), (h c main_arg1).trans (after_of _ (by decide)),
      (h c main_arg2).trans (after_of _ (by decide))⟩)
    (run_seq scopedRefs_eq scopedSems_eq defs main (fun _ => ops) main_eq (fun _ => ops_sub) m ρ
      (fun _ => List.forall_iff_forall_mem.mp ops_fresh))

end Cert.ReferenceIdeal.Run

end
-- ==== Proof.Alg.Arrays.lean ====
/- What the kernel's arrays hold at the end, block by block. -/
module

public import proofs.«01_k».proof.Proof.KI.Run
public import Idealize.ShloMosaic.Lib.Pipeline.ValueKit
public import Idealize.ShloMosaic.Lib.Pointwise.Index

@[expose] public section

set_option maxRecDepth 16384

noncomputable section

namespace Cert.KernelIdeal.Alg

open Cert.KernelIdeal.Gen Cert.KernelIdeal.Run
open Idealize.ShloMosaic Idealize.ShloMosaic.TcCoe
open Idealize.ShloMosaic.Pipeline (Dat)

variable {F : FTy → Type} [FloatOps F]
variable (m : (ℓ : Loc nD τ sig) → Buf (Elt F) ℓ)

/-- The codebooks as launched. -/
abbrev cbk (c : Dev nD) : Vec F S2x512x64 .f32 := m ((c.tc : Thread nD τ).loc main_arg2)

theorem i00 : ∀ t : Fin cfg0.N, win0_0.index t = ![0, 0, 0] := (by decide +kernel : ∀ t : Fin grid0.N, _)
theorem i01 : ∀ t : Fin cfg0.N, win0_1.index t = ![0, 0, 0] := (by decide +kernel : ∀ t : Fin grid0.N, _)
theorem i02 : ∀ t : Fin cfg0.N, win0_2.index t = ![0, 0, 0] := (by decide +kernel : ∀ t : Fin grid0.N, _)
theorem i03 : ∀ t : Fin cfg0.N, win0_3.index t = ![0, 0, 0] := (by decide +kernel : ∀ t : Fin grid0.N, _)
theorem i10 : ∀ t : Fin cfg1.N, win1_0.index t = ![t.val, 0] := (by decide +kernel : ∀ t : Fin grid1.N, _)
theorem i11 : ∀ t : Fin cfg1.N, win1_1.index t = ![0, 0, 0] := (by decide +kernel : ∀ t : Fin grid1.N, _)
theorem i12 : ∀ t : Fin cfg1.N, win1_2.index t = ![0, 0, 0] := (by decide +kernel : ∀ t : Fin grid1.N, _)
theorem i13 : ∀ t : Fin cfg1.N, win1_3.index t = ![0, 0, 0] := (by decide +kernel : ∀ t : Fin grid1.N, _)
theorem i14 : ∀ t : Fin cfg1.N, win1_4.index t = ![t.val, 0] := (by decide +kernel : ∀ t : Fin grid1.N, _)
theorem i15 : ∀ t : Fin cfg1.N, win1_5.index t = ![0, 0] := (by decide +kernel : ∀ t : Fin grid1.N, _)

section Blocks

variable (V : (c : Dev nD) → (b : Ref sig .tc) → Buf (Elt F) ((c.tc : Thread nD τ).loc b))

/-- The preparing call reads the codebooks whole. -/
theorem blk00 (c : Dev nD) (t : Fin cfg0.N) : blk0 V c 0 t = V c main_arg2 := by
  funext y
  blk_simp [blk0]
  congr 1
  blk_ext [i00]

/-- The main call reads the prepared arrays whole. -/
theorem blk11 (c : Dev nD) (t : Fin cfg1.N) : blk1 V c 1 t = V c main_v1_0 := by
  funext y
  blk_simp [blk1]
  congr 1
  blk_ext [i11]

theorem blk12 (c : Dev nD) (t : Fin cfg1.N) : blk1 V c 2 t = V c main_v1_1 := by
  funext y
  blk_simp [blk1]
  congr 1
  blk_ext [i12]

theorem blk13 (c : Dev nD) (t : Fin cfg1.N) : blk1 V c 3 t = V c main_v1_2 := by
  funext y
  blk_simp [blk1]
  congr 1
  blk_ext [i13]

/-- The preparing call's three arrays. -/
theorem arr01 (c : Dev nD) : (dat0 V c).arrAt 1 cfg0.N = nrmOut (V c main_arg2) := by
  refine (dat0 V c).arrAt_eq_of_covers 1 _ (by decide +kernel) fun t hf y => ?_
  refine (congrFun (after0_1 V c t) y).trans ?_
  rw [blk00]
  blk_simp
  congr 1
  blk_ext [i01]

@[inherit_doc arr01] theorem arr02 (c : Dev nD) : (dat0 V c).arrAt 2 cfg0.N = negOut (V c main_arg2) := by
  refine (dat0 V c).arrAt_eq_of_covers 2 _ (by decide +kernel) fun t hf y => ?_
  refine (congrFun (after0_2 V c t) y).trans ?_
  rw [blk00]
  blk_simp
  congr 1
  blk_ext [i02]

@[inherit_doc arr01] theorem arr03 (c : Dev nD) : (dat0 V c).arrAt 3 cfg0.N = splOut (V c main_arg2) := by
  refine (dat0 V c).arrAt_eq_of_covers 3 _ (by decide +kernel) fun t hf y => ?_
  refine (congrFun (after0_3 V c t) y).trans ?_
  rw [blk00]
  blk_simp
  congr 1
  blk_ext [i03]

/-- Row `i` of tile `t`. -/
def rowAt (t : Fin cfg1.N) (i : Fin 8192) : Fin 131072 :=
  ⟨t.val * 8192 + i.val, by
    have := t.isLt
    have h : cfg1.N = 16 := (by decide +kernel)
    omega⟩

theorem blk10 (c : Dev nD) (t : Fin cfg1.N) (i : Fin 8192) (d : Fin 64) :
    blk1 V c 0 t (ix2 i d) = V c main_v0 (ix2 (rowAt t i) d) := by
  blk_simp [blk1]
  congr 1
  blk_ext [i10, rowAt]

/-- The quantised rows, tile by tile. -/
theorem arr14 (c : Dev nD) (g : Vec F S131072x64 .f32)
    (h : ∀ t i d, quantOut (blk1 V c 0 t) (blk1 V c 1 t) (blk1 V c 2 t) (blk1 V c 3 t) (ix2 i d) = g (ix2 (rowAt t i) d)) :
    (dat1 V c).arrAt 4 cfg1.N = g := by
  refine (dat1 V c).arrAt_eq_of_covers 4 _ (by decide +kernel) fun t hf y => ?_
  refine (congrFun (after1_4 V c t) y).trans ?_
  have e : ∀ z : S8192x64.Idx, quantOut (blk1 V c 0 t) (blk1 V c 1 t) (blk1 V c 2 t) (blk1 V c 3 t) z = g (ix2 (rowAt t (z 0)) (z 1)) := by
    intro z
    have hz : z = ix2 (z 0) (z 1) := by funext a; match a with | ⟨0, _⟩ => rfl | ⟨1, _⟩ => rfl
    rw [hz]
    exact h t (z 0) (z 1)
  refine (e y).trans ?_
  blk_simp
  congr 1
  blk_ext [i14, rowAt]

/-- The loss cell holds what the last tile left. -/
theorem arr15 (c : Dev nD) (h15 : 15 < cfg1.N) : (dat1 V c).arrAt 5 cfg1.N = lossAt V c 15 h15 := by
  refine (dat1 V c).arrAt_eq_of_covers 5 _ (by decide +kernel) fun t hf y => ?_
  have ht : t.val = 15 := (by decide +kernel : ∀ t : Fin cfg1.N, (cfg1.win 5).flush t = true → t.val = 15) t hf
  have e : lossAt V c t.val t.isLt = lossAt V c 15 h15 := by
    obtain ⟨t, _⟩ := t
    dsimp only at ht
    subst ht
    rfl
  refine (congrFun ((after1_5 V c t).trans e) y).trans ?_
  blk_simp
  congr 1
  blk_ext [i15]

end Blocks

/-! ## The arrays in order -/

/-- The rows as the main call reads them. -/
theorem at_v0 (c : Dev nD) :
    V1 m c main_v0 = (shapeCast S131072x64 (m ((c.tc : Thread nD τ).loc main_arg0) : Vec F S8x16384x64 .f32) shapeCasts_S8x16384x64_S131072x64 : Vec F S131072x64 .f32) := by
  after_results_simp
  rfl

/-- The arrays the preparing call leaves. -/
theorem at_v1_0 (c : Dev nD) : V2 m (outs m) c main_v1_0 = nrmOut (cbk m c) :=
  (congrFun (afterRegion0 m c) (Proc.devRef .tc main_v1_0)).symm.trans
    ((Pipeline.afterRegion_arr (D0 m c) (V1 m c) winFacts0.arr_inj 1).trans
      ((arr01 (fun c b => V1 m c (Proc.devRef .tc b)) c).trans (congrArg nrmOut (V1_of m c main_arg2 (by decide)))))
@[inherit_doc at_v1_0] theorem at_v1_1 (c : Dev nD) : V2 m (outs m) c main_v1_1 = negOut (cbk m c) :=
  (congrFun (afterRegion0 m c) (Proc.devRef .tc main_v1_1)).symm.trans
    ((Pipeline.afterRegion_arr (D0 m c) (V1 m c) winFacts0.arr_inj 2).trans
      ((arr02 (fun c b => V1 m c (Proc.devRef .tc b)) c).trans (congrArg negOut (V1_of m c main_arg2 (by decide)))))
@[inherit_doc at_v1_0] theorem at_v1_2 (c : Dev nD) : V2 m (outs m) c main_v1_2 = splOut (cbk m c) :=
  (congrFun (afterRegion0 m c) (Proc.devRef .tc main_v1_2)).symm.trans
    ((Pipeline.afterRegion_arr (D0 m c) (V1 m c) winFacts0.arr_inj 3).trans
      ((arr03 (fun c b => V1 m c (Proc.devRef .tc b)) c).trans (congrArg splOut (V1_of m c main_arg2 (by decide)))))

/-- What the main call starts from. -/
abbrev U (c : Dev nD) (b : Ref sig .tc) : Buf (Elt F) ((c.tc : Thread nD τ).loc b) := V2 m (outs1 m) c (Proc.devRef .tc b)

/-- The arrays the main call leaves. -/
theorem at_v2_0 (c : Dev nD) : V3 m (outs m) c main_v2_0 = (dat1 (U m) c).arrAt 4 cfg1.N :=
  (congrFun (afterRegion1 m c) (Proc.devRef .tc main_v2_0)).symm.trans
    (Pipeline.afterRegion_arr (D1 m c) (V2 m (outs m) c) winFacts1.arr_inj 4)
@[inherit_doc at_v2_0] theorem at_v2_1 (c : Dev nD) : V3 m (outs m) c main_v2_1 = (dat1 (U m) c).arrAt 5 cfg1.N :=
  (congrFun (afterRegion1 m c) (Proc.devRef .tc main_v2_1)).symm.trans
    (Pipeline.afterRegion_arr (D1 m c) (V2 m (outs m) c) winFacts1.arr_inj 5)

/-- The results are those arrays reshaped. -/
theorem at_v3 (c : Dev nD) :
    V4 m (outs m) c main_v3 = (shapeCast S8x16384x64 (V3 m (outs m) c main_v2_0 : Vec F S131072x64 .f32) shapeCasts_S131072x64_S8x16384x64 : Vec F S8x16384x64 .f32) := by
  after_results_simp
  rfl
@[inherit_doc at_v3] theorem at_v4 (c : Dev nD) :
    V4 m (outs m) c main_v4 = (shapeCast S_ (V3 m (outs m) c main_v2_1 : Vec F S1x1 .f32) shapeCasts_S1x1_S_ : Vec F S_ .f32) := by
  after_results_simp
  rfl

end Cert.KernelIdeal.Alg

end
-- ==== Proof.Alg.Real.lean ====
/- The mathematics of one stage over the real numbers: distances, their least one, and the row that it names. -/
module

public import Idealize.ShloMosaic.Lib.Pointwise

@[expose] public section

noncomputable section

namespace Cert.Rvq

open Idealize.ShloMosaic

/-- A sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The squared distance of a row to a code, as the programs compute it. -/
def D (r : Fin 64 → ℝ) (b : Fin 512 → Fin 64 → ℝ) (k : Fin 512) : ℝ :=
  ((∑ d, r d * r d) - ∑ d, (2 * r d) * b k d) + ∑ d, b k d * b k d

/-- It is the sum of the squared differences. -/
theorem D_eq (r : Fin 64 → ℝ) (b : Fin 512 → Fin 64 → ℝ) (k : Fin 512) : D r b k = ∑ d, (b k d - r d) * (b k d - r d) := by
  unfold D
  rw [← Finset.sum_sub_distrib, ← Finset.sum_add_distrib]
  exact Finset.sum_congr rfl fun d _ => by ring

/-- `K` is the one nearest code of the row. -/
def Nearest (r : Fin 64 → ℝ) (b : Fin 512 → Fin 64 → ℝ) (K : Fin 512) : Prop := ∀ k, k ≠ K → D r b K < D r b k

/-- A fold by the minimum from the top is the least value, where that is attained. -/
theorem fold_min_eq {n : ℕ} (f : Fin n → EReal) (K : Fin n) (h : ∀ k, f K ≤ f k) : Finset.univ.fold min (⊤ : EReal) f = f K := by
  apply le_antisymm
  · exact (Finset.fold_min_le (f K)).mpr (.inr ⟨K, Finset.mem_univ K, le_refl _⟩)
  · exact (Finset.le_fold_min (f K)).mpr ⟨le_top, fun k _ => h k⟩

/-- A fold by the minimum over some entries is attained at one of them, or is the top. -/
theorem fold_min_attained {n : ℕ} (f : Fin (n + 1) → EReal) : ∃ K, Finset.univ.fold min (⊤ : EReal) f = f K ∧ ∀ k, f K ≤ f k := by
  obtain ⟨K, -, hK⟩ := Finset.exists_min_image Finset.univ f ⟨0, Finset.mem_univ _⟩
  exact ⟨K, fold_min_eq f K fun k => hK k (Finset.mem_univ k), fun k => hK k (Finset.mem_univ k)⟩

/-- The f32 word of plus infinity. -/
theorem ofBits_inf : Ideal.ofBits .f32 0x7F800000#32 = ⊤ := by
  simp [Ideal.ofBits, Ideal.ieee]

/-- The f32 word of minus two. -/
theorem ofBits_neg_two : Ideal.ofBits .f32 0xC0000000#32 = ((-2 : ℝ) : EReal) := by
  simp [Ideal.ofBits, Ideal.ieee]
  rw [← EReal.coe_mul]; norm_num

/-- The f32 word of two. -/
theorem ofBits_two : Ideal.ofBits .f32 0x40000000#32 = ((2 : ℝ) : EReal) := by
  simp [Ideal.ofBits, Ideal.ieee]
  rw [← EReal.coe_mul]; norm_num

/-- The f32 word of the number of entries. -/
theorem ofBits_count : Ideal.ofBits .f32 0x4B000000#32 = ((8388608 : ℝ) : EReal) := by
  simp [Ideal.ofBits, Ideal.ieee]

/-- The f32 word of that number's reciprocal. -/
theorem ofBits_inv : Ideal.ofBits .f32 0x34000000#32 = ((1 / 8388608 : ℝ) : EReal) := by
  simp [Ideal.ofBits, Ideal.ieee]
  rw [← EReal.coe_mul]; norm_num

/-- A code beside what is left of it: the code, then its difference to itself. -/
def splitRow (c : Fin 64 → EReal) (e : Fin 128) : EReal :=
  if h : e.val < 64 then c ⟨e.val, h⟩ else c ⟨e.val - 64, by omega⟩ - c ⟨e.val - 64, by omega⟩

/-! ## One row of the kernel's stage -/

section Row

variable (r : Fin 64 → EReal) (nrm : Fin 512 → EReal) (neg : Fin 512 → Fin 64 → EReal) (spl : Fin 512 → Fin 128 → EReal)

/-- The kernel's distances of a row. -/
def kd (k : Fin 512) : EReal := ∑ d, r d * r d + ∑ d, r d * neg k d + nrm k
/-- The kernel's least distance of a row. -/
def km : EReal := Finset.univ.fold min (⊤ : EReal) (kd r nrm neg)
/-- One where the distance is the least one, zero elsewhere. -/
def ksel (k : Fin 512) : EReal := (((BitVec.setWidth 32 (BitVec.ofBool (decide (kd r nrm neg k = km r nrm neg)))).toInt : ℝ) : EReal)
/-- The kernel's chosen code of a row. -/
def kq (d : Fin 64) : EReal :=
  ∑ k, ksel r nrm neg k * spl k ⟨d.val, by omega⟩ + ∑ k, ksel r nrm neg k * spl k ⟨64 + d.val, by omega⟩

variable (r' : Fin 64 → ℝ) (b : Fin 512 → Fin 64 → ℝ) (K : Fin 512)
  (hr : ∀ d, r d = (r' d : EReal)) (hn : ∀ k, nrm k = ∑ d, (b k d : EReal) * (b k d : EReal))
  (hg : ∀ k d, neg k d = (b k d : EReal) * ((-2 : ℝ) : EReal))
  (hs : ∀ k (e : Fin 128), spl k e = splitRow (fun d => (b k d : EReal)) e)
  (hK : Nearest r' b K)

include hr hn hg in
/-- The kernel's distances are the real ones. -/
theorem kd_eq (k : Fin 512) : kd r nrm neg k = (D r' b k : EReal) := by
  unfold kd
  simp only [hr, hn, hg, ← EReal.coe_mul, ← coe_sum, ← EReal.coe_add]
  congr 1
  unfold D
  rw [sub_eq_add_neg, ← Finset.sum_neg_distrib]
  congr 2
  exact Finset.sum_congr rfl fun d _ => by ring

include hr hn hg hK in
/-- The kernel's least distance is the distance to the nearest code. -/
theorem km_eq : km r nrm neg = (D r' b K : EReal) := by
  unfold km
  rw [fold_min_eq _ K fun k => ?_, kd_eq r nrm neg r' b hr hn hg]
  simp only [kd_eq r nrm neg r' b hr hn hg]
  rw [EReal.coe_le_coe_iff]
  rcases eq_or_ne k K with rfl | h
  · exact le_refl _
  · exact (hK k h).le

include hr hn hg hK in
/-- The selecting row is one at the nearest code and zero elsewhere. -/
theorem ksel_eq (k : Fin 512) : ksel r nrm neg k = if k = K then 1 else 0 := by
  unfold ksel
  rw [km_eq r nrm neg r' b K hr hn hg hK, kd_eq r nrm neg r' b hr hn hg]
  rcases eq_or_ne k K with rfl | h
  · simp
  · have : ¬ ((D r' b k : EReal) = (D r' b K : EReal)) := fun e => (hK k h).ne' (EReal.coe_injective e)
    simp [this, h]

include hr hn hg hs hK in
/-- The kernel's chosen code is the nearest one. -/
theorem kq_eq (d : Fin 64) : kq r nrm neg spl d = (b K d : EReal) := by
  unfold kq
  simp only [ksel_eq r nrm neg r' b K hr hn hg hK, ite_mul, one_mul, zero_mul, Finset.sum_ite_eq', Finset.mem_univ, if_true, hs, splitRow]
  rw [dif_pos d.isLt, dif_neg (by simp), ← EReal.coe_sub, ← EReal.coe_add]
  simp

end Row

end Cert.Rvq

end
-- ==== Proof.Alg.Read.lean ====
/- The kernels' payloads read at an index, as extended-real arithmetic. -/
module

public import proofs.«01_k».proof.Proof.Gen.KernelIdeal.Skeleton
public import proofs.«01_k».proof.Proof.Alg.Real
public import Idealize.ShloMosaic.Lib.Pointwise

@[expose] public section

set_option maxRecDepth 16384

noncomputable section

namespace Cert.KernelIdeal.Alg

open Cert.KernelIdeal.Gen Cert.Rvq
open Idealize.ShloMosaic

/-! ## The main body -/

section Main

variable (v0 : Vec Ideal S8192x64 .f32) (v6 : Vec Ideal S1x1x512 .f32) (v8 : Vec Ideal S1x512x64 .f32) (v22 : Vec Ideal S1x512x128 .bf16)
  (v37 : FVec Ideal S8192x1 .f32)

/-- The norms, the scaled codes and the split codes of a stage, read at their last coordinates. -/
abbrev nrmR : Fin 512 → EReal := fun k => v6 (ix3 0 0 k)
@[inherit_doc nrmR] abbrev negR : Fin 512 → Fin 64 → EReal := fun k d => v8 (ix3 0 k d)
@[inherit_doc nrmR] abbrev splR : Fin 512 → Fin 128 → EReal := fun k e => v22 (ix3 0 k e)
/-- A row of a tile. -/
abbrev rowR (i : Fin 8192) : Fin 64 → EReal := fun d => v0 (ix2 i d)

/-- The first stage's distances. -/
theorem pay3_apply (i : Fin 8192) (k : Fin 512) : k1_pay3 v0 v6 v8 (ix2 i k) = kd (rowR v0 i) (nrmR v6) (negR v8) k := by
  pointwise [k1_pay3, k1_pay2]
  rfl

/-- The first stage's least distances. -/
theorem pay4_apply (i : Fin 8192) : k1_pay4 v0 v6 v8 (ix2 i 0) = km (rowR v0 i) (nrmR v6) (negR v8) := by
  pointwise [k1_pay4]
  rw [ofBits_inf]
  simp only [pay3_apply]
  rfl

/-- The first stage's chosen codes. -/
theorem pay5_apply (i : Fin 8192) (d : Fin 64) : k1_pay5 v0 v6 v8 v22 (ix2 i d) = kq (rowR v0 i) (nrmR v6) (negR v8) (splR v22) d := by
  pointwise [k1_pay5]
  simp only [pay3_apply, pay4_apply]
  rfl

/-- The sum of a column, as the body takes it. -/
theorem total_apply (v : FVec Ideal S8192x1 .f32) :
    extractAt ![0, 0, 0] (shapeCast S1x1x1 (multiReduction .add [1, 2] S1 (shapeCast S1x8192x1 v shapeCasts_S8192x1_S1x8192x1) 0x00000000#32 reduces_S1x8192x1_S1 (.inl rfl) rfl) shapeCasts_S1_S1x1x1) inpos_S1x1x1_p0_0_0
      = ∑ i : Fin 8192, v (ix2 i 0) := by
  unfold extractAt
  rw [shapeCast]
  refine (Ideal.multiReduction_add_total _ _ _ (fun b => by revert b; decide) _ _ _).trans ?_
  refine (sum_idx3 _).trans ?_
  simp only [Fin.sum_univ_one, Fin.sum_univ_one]
  refine Finset.sum_congr rfl fun i _ => ?_
  pointwise

/-- The residual after the first stage. -/
theorem pay8_apply (i : Fin 8192) (d : Fin 64) :
    k1_pay8 v0 v6 v8 v22 (ix2 i d) = v0 (ix2 i d) - kq (rowR v0 i) (nrmR v6) (negR v8) (splR v22) d := by
  pointwise [k1_pay8, k1_pay2]
  rw [pay5_apply]

/-- Its squared row norms. -/
theorem pay9_apply (i : Fin 8192) :
    k1_pay9 v0 v6 v8 v22 (ix2 i 0) = ∑ d, k1_pay8 v0 v6 v8 v22 (ix2 i d) * k1_pay8 v0 v6 v8 v22 (ix2 i d) := by
  pointwise [k1_pay9]

/-- The sum of the chosen codes after the first stage. -/
theorem pay7_apply (i : Fin 8192) (d : Fin 64) : k1_pay7 v0 v6 v8 v22 (ix2 i d) = kq (rowR v0 i) (nrmR v6) (negR v8) (splR v22) d := by
  pointwise [k1_pay7]
  rw [pay5_apply]

variable (h37 : ∀ i : Fin 8192, v37 (ix2 i 0) = ∑ d, v0 (ix2 i d) * v0 (ix2 i d))

include h37 in
/-- The second stage's distances. -/
theorem pay10_apply (i : Fin 8192) (k : Fin 512) : k1_pay10 v0 v37 v6 v8 (ix2 i k) = kd (rowR v0 i) (nrmR v6) (negR v8) k := by
  pointwise [k1_pay10]
  rw [h37]
  rfl

include h37 in
/-- The second stage's least distances. -/
theorem pay11_apply (i : Fin 8192) : k1_pay11 v0 v37 v6 v8 (ix2 i 0) = km (rowR v0 i) (nrmR v6) (negR v8) := by
  pointwise [k1_pay11]
  rw [ofBits_inf]
  simp only [pay10_apply v0 v6 v8 v37 h37]
  rfl

include h37 in
/-- The sum of the chosen codes of both stages. -/
theorem pay12_apply (v33 : FVec Ideal S8192x64 .f32) (i : Fin 8192) (d : Fin 64) :
    k1_pay12 v33 v0 v37 v6 v8 v22 (ix2 i d) = v33 (ix2 i d) + kq (rowR v0 i) (nrmR v6) (negR v8) (splR v22) d := by
  pointwise [k1_pay12]
  simp only [pay10_apply v0 v6 v8 v37 h37, pay11_apply v0 v6 v8 v37 h37]
  rfl

include h37 in
/-- The tile's loss. -/
theorem pay13_apply (v32 : EReal) : k1_pay13 v32 v0 v37 v6 v8 (ix2 0 0) = v32 + ∑ i : Fin 8192, km (rowR v0 i) (nrmR v6) (negR v8) := by
  unfold k1_pay13
  exact congrArg (fun z : EReal => v32 + z)
    ((total_apply (k1_pay11 v0 v37 v6 v8)).trans (Finset.sum_congr rfl fun i _ => pay11_apply v0 v6 v8 v37 h37 i))

include h37 in
/-- The loss so far with the tile's added. -/
theorem pay14_apply (v32 : EReal) (v77 : Vec Ideal S1x1 .f32) :
    k1_pay14 v32 v0 v37 v6 v8 v77 (ix2 0 0) = v77 (ix2 0 0) + (v32 + ∑ i : Fin 8192, km (rowR v0 i) (nrmR v6) (negR v8)) := by
  rw [← pay13_apply v0 v6 v8 v37 h37]
  pointwise [k1_pay14]

/-- The loss scaled. -/
theorem pay1_apply (v77 : Vec Ideal S1x1 .f32) : k1_pay1 v77 (ix2 0 0) = v77 (ix2 0 0) * ((1 / 8388608 : ℝ) : EReal) := by
  pointwise [k1_pay1]
  rw [ofBits_inv]

end Main

/-! ## The preparing body -/

section Prep

variable (v0 : Vec Ideal S1x512x64 .f32)

/-- The squared code norms. -/
theorem prep_nrm (k : Fin 512) : k0_pay4 v0 (ix3 0 0 k) = ∑ d, v0 (ix3 0 k d) * v0 (ix3 0 k d) := by
  pointwise [k0_pay4, k0_pay3]

/-- The codes times minus two. -/
theorem prep_neg (k : Fin 512) (d : Fin 64) : k0_pay5 v0 (ix3 0 k d) = v0 (ix3 0 k d) * ((-2 : ℝ) : EReal) := by
  pointwise [k0_pay5, k0_pay3]
  rw [ofBits_neg_two]

/-- The split codes. -/
theorem prep_spl (k : Fin 512) (e : Fin 128) : k0_pay6 v0 (ix3 0 k e)
    = splitRow (fun d => v0 (ix3 0 k d)) e := by
  pointwise [k0_pay6, k0_pay3]
  rfl

/-- The second codebook is prepared as the first one. -/
theorem prep_nrm' : k0_pay8 v0 = k0_pay4 v0 := rfl
@[inherit_doc prep_nrm'] theorem prep_neg' : k0_pay1 (k0_pay9 v0) = k0_pay5 v0 := rfl
@[inherit_doc prep_nrm'] theorem prep_spl' : k0_pay2 (k0_pay7 v0) = k0_pay6 v0 := rfl

end Prep

end Cert.KernelIdeal.Alg

end
-- ==== Proof.Alg.Tile.lean ====
/- What the main body leaves for a tile of real rows whose nearest codes are unique. -/
module

public import proofs.«01_k».proof.Proof.Alg.Read
public import proofs.«01_k».proof.Proof.KI.RvqBody
public import Idealize.ShloMosaic.Lib.Pipeline.ValueKit.Tiles

@[expose] public section

set_option maxRecDepth 16384

noncomputable section

namespace Cert.KernelIdeal.Alg

open Cert.KernelIdeal.Gen Cert.KernelIdeal.Run Cert.Rvq
open Idealize.ShloMosaic

/-- An addition of scalars. -/
theorem scalar_add (a z y : EReal) (h : z = y) : Scalar.addf (F := Ideal) (φ := .f32) a z = a + y := by subst h; rfl

/-- The zero scalar. -/
theorem scalar_zero : Scalar.ofBits (F := Ideal) .f32 0x00000000#32 = (0 : EReal) := Ideal.ofBits_zero_f32

/-- The first stage's part of the loss. -/
theorem pay6_eq (v0 : Vec Ideal S8192x64 .f32) (v6 : Vec Ideal S1x1x512 .f32) (v8 : Vec Ideal S1x512x64 .f32) :
    k1_pay6 v0 v6 v8 = ∑ i : Fin 8192, km (rowR v0 i) (nrmR v6) (negR v8) := by
  unfold k1_pay6
  refine (scalar_add _ _ _ ((total_apply (k1_pay4 v0 v6 v8)).trans (Finset.sum_congr rfl fun i _ => pay4_apply v0 v6 v8 i))).trans ?_
  rw [scalar_zero, zero_add]

/-- The prepared arrays hold, for each stage, the norms, the scaled codes and the split codes of a real codebook. -/
structure Prepared (x1 : Vec Ideal S2x1x512 .f32) (x2 : Vec Ideal S2x512x64 .f32) (x3 : Vec Ideal S2x512x128 .bf16)
    (b : Fin 2 → Fin 512 → Fin 64 → ℝ) : Prop where
  nrm : ∀ q k, x1 (ix3 q 0 k) = ∑ d, (b q k d : EReal) * (b q k d : EReal)
  neg : ∀ q k d, x2 (ix3 q k d) = (b q k d : EReal) * ((-2 : ℝ) : EReal)
  spl : ∀ q k (e : Fin 128), x3 (ix3 q k e)
    = splitRow (fun d => (b q k d : EReal)) e

section Loads

variable (x1 : Vec Ideal S2x1x512 .f32) (x2 : Vec Ideal S2x512x64 .f32) (x3 : Vec Ideal S2x512x128 .bf16)

theorem nrm0_apply (k : Fin 512) : nrm0 x1 (ix3 0 0 k) = x1 (ix3 0 0 k) := by
  unfold nrm0; refine View.ld_unit_apply_of _ _ _ _ _ _ fun a => ?_
  match a with | ⟨0, _⟩ => rfl | ⟨1, _⟩ => rfl | ⟨2, _⟩ => exact (Nat.zero_add _).symm
theorem nrm1_apply (k : Fin 512) : nrm1 x1 (ix3 0 0 k) = x1 (ix3 1 0 k) := by
  unfold nrm1; refine View.ld_unit_apply_of _ _ _ _ _ _ fun a => ?_
  match a with | ⟨0, _⟩ => rfl | ⟨1, _⟩ => rfl | ⟨2, _⟩ => exact (Nat.zero_add _).symm
theorem neg0_apply (k : Fin 512) (d : Fin 64) : neg0 x2 (ix3 0 k d) = x2 (ix3 0 k d) := by
  unfold neg0; refine View.ld_unit_apply_of _ _ _ _ _ _ fun a => ?_
  match a with | ⟨0, _⟩ => rfl | ⟨1, _⟩ => exact (Nat.zero_add _).symm | ⟨2, _⟩ => exact (Nat.zero_add _).symm
theorem neg1_apply (k : Fin 512) (d : Fin 64) : neg1 x2 (ix3 0 k d) = x2 (ix3 1 k d) := by
  unfold neg1; refine View.ld_unit_apply_of _ _ _ _ _ _ fun a => ?_
  match a with | ⟨0, _⟩ => rfl | ⟨1, _⟩ => exact (Nat.zero_add _).symm | ⟨2, _⟩ => exact (Nat.zero_add _).symm
theorem spl0_apply (k : Fin 512) (d : Fin 128) : spl0 x3 (ix3 0 k d) = x3 (ix3 0 k d) := by
  unfold spl0; refine View.ld_unit_apply_of _ _ _ _ _ _ fun a => ?_
  match a with | ⟨0, _⟩ => rfl | ⟨1, _⟩ => exact (Nat.zero_add _).symm | ⟨2, _⟩ => exact (Nat.zero_add _).symm
theorem spl1_apply (k : Fin 512) (d : Fin 128) : spl1 x3 (ix3 0 k d) = x3 (ix3 1 k d) := by
  unfold spl1; refine View.ld_unit_apply_of _ _ _ _ _ _ fun a => ?_
  match a with | ⟨0, _⟩ => rfl | ⟨1, _⟩ => exact (Nat.zero_add _).symm | ⟨2, _⟩ => exact (Nat.zero_add _).symm

end Loads

section Tile

variable (x0 : Vec Ideal S8192x64 .f32) (x1 : Vec Ideal S2x1x512 .f32) (x2 : Vec Ideal S2x512x64 .f32) (x3 : Vec Ideal S2x512x128 .bf16)
  (b : Fin 2 → Fin 512 → Fin 64 → ℝ) (hb : Prepared x1 x2 x3 b)
  (x : Fin 8192 → Fin 64 → ℝ) (hx : ∀ i d, x0 (ix2 i d) = (x i d : EReal))
  (K0 K1 : Fin 8192 → Fin 512) (hK0 : ∀ i, Nearest (x i) (b 0) (K0 i)) (hK1 : ∀ i, Nearest (fun d => x i d - b 0 (K0 i) d) (b 1) (K1 i))

include hb hx hK0 in
/-- The first stage's chosen code of a row. -/
theorem first_code (i : Fin 8192) (d : Fin 64) :
    kq (rowR x0 i) (nrmR (nrm0 x1)) (negR (neg0 x2)) (splR (spl0 x3)) d = (b 0 (K0 i) d : EReal) :=
  kq_eq _ _ _ _ (x i) (b 0) (K0 i) (hx i) (fun k => (nrm0_apply x1 k).trans (hb.nrm 0 k)) (fun k d => (neg0_apply x2 k d).trans (hb.neg 0 k d))
    (fun k e => (spl0_apply x3 k e).trans (hb.spl 0 k e)) (hK0 i) d

include hb hx hK0 in
/-- The first stage's least distance of a row. -/
theorem first_least (i : Fin 8192) : km (rowR x0 i) (nrmR (nrm0 x1)) (negR (neg0 x2)) = (D (x i) (b 0) (K0 i) : EReal) :=
  km_eq _ _ _ (x i) (b 0) (K0 i) (hx i) (fun k => (nrm0_apply x1 k).trans (hb.nrm 0 k)) (fun k d => (neg0_apply x2 k d).trans (hb.neg 0 k d)) (hK0 i)

include hb hx hK0 in
/-- The residual of a row. -/
theorem res1_apply (i : Fin 8192) (d : Fin 64) : res1 x0 x1 x2 x3 (ix2 i d) = ((x i d - b 0 (K0 i) d : ℝ) : EReal) := by
  unfold res1
  rw [pay8_apply, first_code x0 x1 x2 x3 b hb x hx K0 hK0, hx, EReal.coe_sub]

/-- The second stage's row norms are those of the residual. -/
theorem rr1_apply (i : Fin 8192) : rr1 x0 x1 x2 x3 (ix2 i 0) = ∑ d, res1 x0 x1 x2 x3 (ix2 i d) * res1 x0 x1 x2 x3 (ix2 i d) := pay9_apply _ _ _ _ i

include hb hx hK0 hK1 in
/-- The second stage's chosen code of a row. -/
theorem second_code (i : Fin 8192) (d : Fin 64) :
    kq (rowR (res1 x0 x1 x2 x3) i) (nrmR (nrm1 x1)) (negR (neg1 x2)) (splR (spl1 x3)) d = (b 1 (K1 i) d : EReal) :=
  kq_eq _ _ _ _ _ (b 1) (K1 i) (res1_apply x0 x1 x2 x3 b hb x hx K0 hK0 i) (fun k => (nrm1_apply x1 k).trans (hb.nrm 1 k)) (fun k d => (neg1_apply x2 k d).trans (hb.neg 1 k d))
    (fun k e => (spl1_apply x3 k e).trans (hb.spl 1 k e)) (hK1 i) d

include hb hx hK0 hK1 in
/-- The second stage's least distance of a row. -/
theorem second_least (i : Fin 8192) : km (rowR (res1 x0 x1 x2 x3) i) (nrmR (nrm1 x1)) (negR (neg1 x2))
    = (D (fun d => x i d - b 0 (K0 i) d) (b 1) (K1 i) : EReal) :=
  km_eq _ _ _ _ (b 1) (K1 i) (res1_apply x0 x1 x2 x3 b hb x hx K0 hK0 i) (fun k => (nrm1_apply x1 k).trans (hb.nrm 1 k)) (fun k d => (neg1_apply x2 k d).trans (hb.neg 1 k d)) (hK1 i)

include hb hx hK0 hK1 in
/-- The tile of the first result: the sum of both chosen codes. -/
theorem quantOut_apply (i : Fin 8192) (d : Fin 64) : quantOut x0 x1 x2 x3 (ix2 i d) = ((b 0 (K0 i) d + b 1 (K1 i) d : ℝ) : EReal) := by
  unfold quantOut
  rw [pay12_apply _ _ _ _ _ (rr1_apply x0 x1 x2 x3), pay7_apply, first_code x0 x1 x2 x3 b hb x hx K0 hK0,
    second_code x0 x1 x2 x3 b hb x hx K0 K1 hK0 hK1, EReal.coe_add]

/-- The loss of a tile. -/
def tileLoss : ℝ := ∑ i, D (x i) (b 0) (K0 i) + ∑ i, D (fun d => x i d - b 0 (K0 i) d) (b 1) (K1 i)

include hb hx hK0 hK1 in
/-- The tile's loss, as the body computes it. -/
theorem loss_eq : k1_pay6 x0 (nrm0 x1) (neg0 x2) + ∑ i : Fin 8192, km (rowR (res1 x0 x1 x2 x3) i) (nrmR (nrm1 x1)) (negR (neg1 x2))
    = (tileLoss b x K0 K1 : EReal) := by
  rw [pay6_eq]
  simp only [first_least x0 x1 x2 x3 b hb x hx K0 hK0, second_least x0 x1 x2 x3 b hb x hx K0 K1 hK0 hK1]
  rw [← coe_sum, ← coe_sum, ← EReal.coe_add]
  rfl

include hb hx hK0 hK1 in
/-- What the first tile starts the loss with. -/
theorem lossOut_apply : lossOut x0 x1 x2 x3 (ix2 0 0) = (tileLoss b x K0 K1 : EReal) := by
  unfold lossOut
  exact (pay13_apply _ _ _ _ (rr1_apply x0 x1 x2 x3) _).trans (loss_eq x0 x1 x2 x3 b hb x hx K0 K1 hK0 hK1)

include hb hx hK0 hK1 in
/-- What a later tile adds to the loss. -/
theorem lossAdd_apply (p : Vec Ideal S1x1 .f32) : lossAdd x0 x1 x2 x3 p (ix2 0 0) = p (ix2 0 0) + (tileLoss b x K0 K1 : EReal) := by
  unfold lossAdd
  exact (pay14_apply _ _ _ _ (rr1_apply x0 x1 x2 x3) _ p).trans (congrArg (p (ix2 0 0) + ·) (loss_eq x0 x1 x2 x3 b hb x hx K0 K1 hK0 hK1))

end Tile

end Cert.KernelIdeal.Alg

end
-- ==== Proof.Alg.Prep.lean ====
/- What the preparing body leaves for a real codebook. -/
module

public import proofs.«01_k».proof.Proof.Alg.Tile
public import proofs.«01_k».proof.Proof.KI.PrepBody
public import Idealize.ShloMosaic.Lib.Pipeline.ValueKit

@[expose] public section

set_option maxRecDepth 16384

noncomputable section

namespace Cert.KernelIdeal.Alg

open Cert.KernelIdeal.Gen Cert.KernelIdeal.Run Cert.Rvq
open Idealize.ShloMosaic

variable (x : Vec Ideal S2x512x64 .f32)

/-- The two loads of the codebooks. -/
theorem cb0_apply (k : Fin 512) (d : Fin 64) : cb0 x (ix3 0 k d) = x (ix3 0 k d) := by
  unfold cb0; refine View.ld_unit_apply_of _ _ _ _ _ _ fun a => ?_
  match a with | ⟨0, _⟩ => rfl | ⟨1, _⟩ => exact (Nat.zero_add _).symm | ⟨2, _⟩ => exact (Nat.zero_add _).symm
@[inherit_doc cb0_apply] theorem cb1_apply (k : Fin 512) (d : Fin 64) : cb1 x (ix3 0 k d) = x (ix3 1 k d) := by
  unfold cb1; refine View.ld_unit_apply_of _ _ _ _ _ _ fun a => ?_
  match a with | ⟨0, _⟩ => rfl | ⟨1, _⟩ => exact (Nat.zero_add _).symm | ⟨2, _⟩ => exact (Nat.zero_add _).symm

/-- Row `q` of a stacked pair, placed in it. -/
theorem emb_row {n p : ℕ} (q : Fin 2) (inb : ∀ a, (![q.val, 0, 0] : Fin 3 → ℕ) a + (![1, n, p] : Fin 3 → ℕ) a ≤ (![2, n, p] : Fin 3 → ℕ) a) (k : Fin n) (d : Fin p) :
    (Rect.unit (s := ⟨3, ![2, n, p]⟩) ![q.val, 0, 0] ![1, n, p] inb).emb (ix3 (0 : Fin 1) k d) = ix3 q k d := by
  funext a
  refine Fin.ext ((ValueKit.rect_emb_unit_val _ _ _ _ a).trans ?_)
  match a with
  | ⟨0, _⟩ => rfl
  | ⟨1, _⟩ => exact Nat.zero_add _
  | ⟨2, _⟩ => exact Nat.zero_add _

/-- Row 0 of a stacked pair is not in the place of row 1. -/
theorem not_mem_row {n p : ℕ} (inb : ∀ a, (![1, 0, 0] : Fin 3 → ℕ) a + (![1, n, p] : Fin 3 → ℕ) a ≤ (![2, n, p] : Fin 3 → ℕ) a) (k : Fin n) (d : Fin p) :
    ix3 (0 : Fin 2) k d ∉ (Rect.unit (s := ⟨3, ![2, n, p]⟩) ![1, 0, 0] ![1, n, p] inb).set := by
  rw [Rect.mem_set_unit]
  intro h
  exact absurd (h 0).1 (by simp)

/-- The two rows of a pair filled row by row. -/
theorem canon_row0 {n p : ℕ} {e : EltTy} (inb0 : ∀ a, (![0, 0, 0] : Fin 3 → ℕ) a + (![1, n, p] : Fin 3 → ℕ) a ≤ (![2, n, p] : Fin 3 → ℕ) a)
    (inb1 : ∀ a, (![1, 0, 0] : Fin 3 → ℕ) a + (![1, n, p] : Fin 3 → ℕ) a ≤ (![2, n, p] : Fin 3 → ℕ) a)
    (w0 w1 : (⟨3, ![1, n, p]⟩ : Shape).Idx → Elt Ideal e) (k : Fin n) (d : Fin p) :
    View.canon [(⟨Rect.unit (s := ⟨3, ![2, n, p]⟩) ![1, 0, 0] ![1, n, p] inb1, w1⟩ : View.Piece (Elt Ideal) _ _),
      ⟨Rect.unit (s := ⟨3, ![2, n, p]⟩) ![0, 0, 0] ![1, n, p] inb0, w0⟩] (ix3 0 k d) = w0 (ix3 0 k d) := by
  refine (View.canon_cons_of_not_mem (Val := Elt Ideal)
    ⟨Rect.unit (s := ⟨3, ![2, n, p]⟩) ![1, 0, 0] ![1, n, p] inb1, w1⟩ [⟨Rect.unit (s := ⟨3, ![2, n, p]⟩) ![0, 0, 0] ![1, n, p] inb0, w0⟩]
    (y := ix3 (0 : Fin 2) k d) ?_).trans ?_
  · dsimp only
    exact not_mem_row inb1 k d
  have h := View.canon_cons_emb (Val := Elt Ideal) (Rect.unit (s := ⟨3, ![2, n, p]⟩) ![0, 0, 0] ![1, n, p] inb0) w0 [] (ix3 0 k d)
  rw [show (Rect.unit (s := ⟨3, ![2, n, p]⟩) ![0, 0, 0] ![1, n, p] inb0).emb (ix3 0 k d) = ix3 0 k d from emb_row 0 inb0 k d] at h
  exact h
@[inherit_doc canon_row0] theorem canon_row1 {n p : ℕ} {e : EltTy} (inb0 : ∀ a, (![0, 0, 0] : Fin 3 → ℕ) a + (![1, n, p] : Fin 3 → ℕ) a ≤ (![2, n, p] : Fin 3 → ℕ) a)
    (inb1 : ∀ a, (![1, 0, 0] : Fin 3 → ℕ) a + (![1, n, p] : Fin 3 → ℕ) a ≤ (![2, n, p] : Fin 3 → ℕ) a)
    (w0 w1 : (⟨3, ![1, n, p]⟩ : Shape).Idx → Elt Ideal e) (k : Fin n) (d : Fin p) :
    View.canon [(⟨Rect.unit (s := ⟨3, ![2, n, p]⟩) ![1, 0, 0] ![1, n, p] inb1, w1⟩ : View.Piece (Elt Ideal) _ _),
      ⟨Rect.unit (s := ⟨3, ![2, n, p]⟩) ![0, 0, 0] ![1, n, p] inb0, w0⟩] (ix3 1 k d) = w1 (ix3 0 k d) := by
  have h := View.canon_cons_emb (Val := Elt Ideal) (Rect.unit (s := ⟨3, ![2, n, p]⟩) ![1, 0, 0] ![1, n, p] inb1) w1
    [⟨Rect.unit (s := ⟨3, ![2, n, p]⟩) ![0, 0, 0] ![1, n, p] inb0, w0⟩] (ix3 0 k d)
  rw [show (Rect.unit (s := ⟨3, ![2, n, p]⟩) ![1, 0, 0] ![1, n, p] inb1).emb (ix3 0 k d) = ix3 1 k d from emb_row 1 inb1 k d] at h
  exact h

/-- The prepared arrays of a real codebook. -/
theorem prepared (b : Fin 2 → Fin 512 → Fin 64 → ℝ) (hb : ∀ q k d, x (ix3 q k d) = (b q k d : EReal)) :
    Prepared (nrmOut x) (negOut x) (splOut x) b where
  nrm q k := by
    unfold nrmOut
    match q with
    | 0 => refine (canon_row0 _ _ _ _ 0 k).trans ?_; rw [prep_nrm]; simp only [cb0_apply, hb]
    | 1 => refine (canon_row1 _ _ _ _ 0 k).trans ?_; rw [prep_nrm', prep_nrm]; simp only [cb1_apply, hb]
  neg q k d := by
    unfold negOut
    match q with
    | 0 => refine (canon_row0 _ _ _ _ k d).trans ?_; rw [prep_neg]; simp only [cb0_apply, hb]
    | 1 => refine (canon_row1 _ _ _ _ k d).trans ?_; rw [prep_neg', prep_neg]; simp only [cb1_apply, hb]
  spl q k e := by
    unfold splOut
    match q with
    | 0 => refine (canon_row0 _ _ _ _ k e).trans ?_; rw [prep_spl]; simp only [cb0_apply, hb]
    | 1 => refine (canon_row1 _ _ _ _ k e).trans ?_; rw [prep_spl', prep_spl]; simp only [cb1_apply, hb]

end Cert.KernelIdeal.Alg

end
-- ==== Proof.Alg.Values.lean ====
/- The two results of the kernel as real numbers. -/
module

public import proofs.«01_k».proof.Proof.Alg.Arrays
public import proofs.«01_k».proof.Proof.Alg.Prep
public import Idealize.ShloMosaic.Lib.Pointwise

@[expose] public section

set_option maxRecDepth 16384

noncomputable section

namespace Cert.KernelIdeal.Alg

open Cert.KernelIdeal.Gen Cert.KernelIdeal.Run Cert.Rvq
open Idealize.ShloMosaic Idealize.ShloMosaic.TcCoe

/-- Where row `e` of group `a` lies among all rows. -/
def rowOf (a : Fin 8) (e : Fin 16384) : Fin 131072 := ⟨a.val * 16384 + e.val, by have := a.isLt; have := e.isLt; omega⟩

/-- A reshape of the rows, read at an index. -/
theorem split_apply (g : Vec Ideal S131072x64 .f32) (a : Fin 8) (e : Fin 16384) (d : Fin 64) :
    shapeCast S8x16384x64 g shapeCasts_S131072x64_S8x16384x64 (ix3 a e d) = g (ix2 (rowOf a e) d) := by
  pointwise [rowOf]

/-- A reshape of one cell. -/
theorem cell_apply (g : Vec Ideal S1x1 .f32) (j : S_.Idx) : shapeCast S_ g shapeCasts_S1x1_S_ j = g (ix2 0 0) := by
  unfold shapeCast
  congr 1
  funext a
  match a with
  | ⟨0, _⟩ => exact Subsingleton.elim (α := Fin 1) _ _
  | ⟨1, _⟩ => exact Subsingleton.elim (α := Fin 1) _ _

variable (m : (ℓ : Loc nD τ sig) → Buf (Elt Ideal) ℓ) (c : Dev nD)
variable (x : Fin 131072 → Fin 64 → ℝ) (b : Fin 2 → Fin 512 → Fin 64 → ℝ)
variable (hx : ∀ n d, shapeCast S131072x64 (m ((c.tc : Thread nD τ).loc main_arg0) : Vec Ideal S8x16384x64 .f32) shapeCasts_S8x16384x64_S131072x64 (ix2 n d) = (x n d : EReal))
variable (hb : ∀ q k d, (m ((c.tc : Thread nD τ).loc main_arg2) : Vec Ideal S2x512x64 .f32) (ix3 q k d) = (b q k d : EReal))
variable (K0 K1 : Fin 131072 → Fin 512)
variable (hK0 : ∀ n, Nearest (x n) (b 0) (K0 n)) (hK1 : ∀ n, Nearest (fun d => x n d - b 0 (K0 n) d) (b 1) (K1 n))

include hb in
/-- The main call meets the prepared arrays at every tile. -/
theorem prepared_at (t : Fin cfg1.N) : Prepared (blk1 (U m) c 1 t) (blk1 (U m) c 2 t) (blk1 (U m) c 3 t) b := by
  rw [blk11, blk12, blk13]
  have h0 : U m c main_v1_0 = nrmOut (cbk m c) := at_v1_0 m c
  have h1 : U m c main_v1_1 = negOut (cbk m c) := at_v1_1 m c
  have h2 : U m c main_v1_2 = splOut (cbk m c) := at_v1_2 m c
  rw [h0, h1, h2]
  exact prepared (cbk m c) b hb

include hx in
/-- The rows of a tile. -/
theorem rows_at (t : Fin cfg1.N) (i : Fin 8192) (d : Fin 64) : blk1 (U m) c 0 t (ix2 i d) = (x (rowAt t i) d : EReal) := by
  refine (blk10 (U m) c t i d).trans ?_
  have h : U m c main_v0 = V1 m c main_v0 := V2_of m (outs m) c main_v0 (by decide)
  rw [h, at_v0]
  exact hx _ d

include hx hb hK0 hK1 in
/-- The quantised rows. -/
theorem quantised_rows (a : Fin 8) (e : Fin 16384) (d : Fin 64) :
    (V4 m (outs m) c main_v3 : Vec Ideal S8x16384x64 .f32) (ix3 a e d)
      = ((b 0 (K0 (rowOf a e)) d + b 1 (K1 (rowOf a e)) d : ℝ) : EReal) := by
  refine (congrFun (at_v3 m c) (ix3 a e d)).trans ?_
  rw [split_apply, at_v2_0,
    arr14 (U m) c (fun j => ((b 0 (K0 (j 0)) (j 1) + b 1 (K1 (j 0)) (j 1) : ℝ) : EReal)) fun t i d =>
      quantOut_apply (blk1 (U m) c 0 t) (blk1 (U m) c 1 t) (blk1 (U m) c 2 t) (blk1 (U m) c 3 t) b (prepared_at m c b hb t)
        (fun i => x (rowAt t i)) (rows_at m c x hx t) (fun i => K0 (rowAt t i)) (fun i => K1 (rowAt t i)) (fun i => hK0 _) (fun i => hK1 _) i d]
  rfl

/-- The loss of tile `s`. -/
def lossTile (s : ℕ) : ℝ :=
  if h : s < cfg1.N then tileLoss b (fun i => x (rowAt ⟨s, h⟩ i)) (fun i => K0 (rowAt ⟨s, h⟩ i)) (fun i => K1 (rowAt ⟨s, h⟩ i)) else 0

include hx hb hK0 hK1 in
/-- The first tiles' losses, added up. -/
theorem loss_upto (n : ℕ) (hn : n < cfg1.N) (hl : n < 15) :
    lossAt (U m) c n hn (ix2 0 0) = ((∑ s ∈ Finset.range (n + 1), lossTile x b K0 K1 s : ℝ) : EReal) := by
  induction n with
  | zero =>
    rw [show lossAt (U m) c 0 hn = _ from lossAt_first (U m) c ⟨0, hn⟩ rfl,
      lossOut_apply (blk1 (U m) c 0 ⟨0, hn⟩) (blk1 (U m) c 1 ⟨0, hn⟩) (blk1 (U m) c 2 ⟨0, hn⟩) (blk1 (U m) c 3 ⟨0, hn⟩) b (prepared_at m c b hb _)
        (fun i => x (rowAt _ i)) (rows_at m c x hx _) (fun i => K0 (rowAt _ i)) (fun i => K1 (rowAt _ i)) (fun i => hK0 _) (fun i => hK1 _)]
    rw [Finset.sum_range_one, lossTile, dif_pos hn]
  | succ n ih =>
    rw [show lossAt (U m) c (n + 1) hn = _ from lossAt_middle (U m) c ⟨n + 1, hn⟩ (Nat.succ_le_succ (Nat.zero_le n)) (Nat.ne_of_lt hl),
      lossAdd_apply (blk1 (U m) c 0 ⟨n + 1, hn⟩) (blk1 (U m) c 1 ⟨n + 1, hn⟩) (blk1 (U m) c 2 ⟨n + 1, hn⟩) (blk1 (U m) c 3 ⟨n + 1, hn⟩) b (prepared_at m c b hb _)
        (fun i => x (rowAt _ i)) (rows_at m c x hx _) (fun i => K0 (rowAt _ i)) (fun i => K1 (rowAt _ i)) (fun i => hK0 _) (fun i => hK1 _)]
    rw [Finset.sum_range_succ, EReal.coe_add]
    refine congrArg₂ (· + ·) (ih (Nat.lt_of_succ_lt hn) (Nat.lt_of_succ_lt hl)) ?_
    rw [lossTile, dif_pos hn]

include hx hb hK0 hK1 in
/-- The last tile scales the sum. -/
theorem loss_end (h15 : 15 < cfg1.N) :
    lossAt (U m) c 15 h15 (ix2 0 0) = (((∑ s ∈ Finset.range 16, lossTile x b K0 K1 s) * (1 / 8388608) : ℝ) : EReal) := by
  rw [show lossAt (U m) c 15 h15 = _ from lossAt_last (U m) c ⟨15, h15⟩ rfl, pay1_apply,
    lossAdd_apply (blk1 (U m) c 0 ⟨15, h15⟩) (blk1 (U m) c 1 ⟨15, h15⟩) (blk1 (U m) c 2 ⟨15, h15⟩) (blk1 (U m) c 3 ⟨15, h15⟩) b (prepared_at m c b hb _)
      (fun i => x (rowAt _ i)) (rows_at m c x hx _) (fun i => K0 (rowAt _ i)) (fun i => K1 (rowAt _ i)) (fun i => hK0 _) (fun i => hK1 _)]
  rw [EReal.coe_mul, Finset.sum_range_succ, EReal.coe_add]
  refine congrArg₂ (· * ·) (congrArg₂ (· + ·) (loss_upto m c x b hx hb K0 K1 hK0 hK1 14 (Nat.lt_of_succ_lt h15) (by decide)) ?_) rfl
  rw [lossTile, dif_pos h15]

/-- All tiles together hold every row once. -/
theorem loss_tiles : ∑ s ∈ Finset.range 16, lossTile x b K0 K1 s
    = ∑ n, D (x n) (b 0) (K0 n) + ∑ n, D (fun d => x n d - b 0 (K0 n) d) (b 1) (K1 n) := by
  have hN : cfg1.N = 16 := (by decide +kernel)
  rw [Finset.sum_range, Fin.sum_univ_tiles 16 8192 rfl (fun n => D (x n) (b 0) (K0 n)),
    Fin.sum_univ_tiles 16 8192 rfl (fun n => D (fun d => x n d - b 0 (K0 n) d) (b 1) (K1 n)), ← Finset.sum_add_distrib]
  refine Finset.sum_congr rfl fun s _ => ?_
  rw [lossTile, dif_pos (Nat.lt_of_lt_of_eq s.isLt hN.symm), tileLoss]
  rfl

include hx hb hK0 hK1 in
/-- The loss. -/
theorem loss_cell (j : S_.Idx) :
    (V4 m (outs m) c main_v4 : Vec Ideal S_ .f32) j
      = (((∑ n, D (x n) (b 0) (K0 n)) / 8388608 + (∑ n, D (fun d => x n d - b 0 (K0 n) d) (b 1) (K1 n)) / 8388608 : ℝ) : EReal) := by
  have h15 : 15 < cfg1.N := (by decide +kernel)
  refine (congrFun (at_v4 m c) j).trans ?_
  rw [cell_apply, at_v2_1, arr15 (U m) c h15, loss_end m c x b hx hb K0 K1 hK0 hK1 h15, loss_tiles]
  refine congrArg _ ?_
  ring

end Cert.KernelIdeal.Alg

end
-- ==== Proof.Alg.Ref.lean ====
/- The reference's stage read at an index, and the rows that it takes. -/
module

public import proofs.«01_k».proof.Proof.RI.Run
public import proofs.«01_k».proof.Proof.Alg.Real
public import Idealize.ShloMosaic.Lib.Pointwise
public import Idealize.ShloMosaic.Lib.Routing.Ops

@[expose] public section

set_option maxRecDepth 16384

noncomputable section

namespace Cert.ReferenceIdeal.Alg

open Cert.ReferenceIdeal Cert.ReferenceIdeal.Gen Cert.ReferenceIdeal.Run Cert.Rvq
open Idealize.ShloMosaic

/-! ## Distances -/

/-- The distances, as extended-real arithmetic. -/
theorem dist_apply (r : FVec Ideal S131072x64 .f32) (b : FVec Ideal S512x64 .f32) (n : Fin 131072) (k : Fin 512) :
    Run.dist r b (ix2 n k) = ((∑ d, r (ix2 n d) * r (ix2 n d)) - ∑ d, ((2 : ℝ) : EReal) * r (ix2 n d) * b (ix2 k d)) + ∑ d, b (ix2 k d) * b (ix2 k d) := by
  pointwise [Run.dist, rowSq, codeSq, cross]
  rw [ofBits_two]

/-- Of real rows and codes they are the real distances. -/
theorem dist_real (r : FVec Ideal S131072x64 .f32) (b : FVec Ideal S512x64 .f32) (r' : Fin 131072 → Fin 64 → ℝ) (b' : Fin 512 → Fin 64 → ℝ)
    (hr : ∀ n d, r (ix2 n d) = (r' n d : EReal)) (hb : ∀ k d, b (ix2 k d) = (b' k d : EReal)) (n : Fin 131072) (k : Fin 512) :
    Run.dist r b (ix2 n k) = (D (r' n) b' k : EReal) := by
  rw [dist_apply]
  simp only [hr, hb, ← EReal.coe_mul, ← coe_sum, ← EReal.coe_add, ← EReal.coe_sub]
  rfl

/-! ## Rows -/

/-- The row number of a code is not wrapped around. -/
theorem wrapped_apply (i : IVec S131072 32) (n : Fin 131072) (K : Fin 512) (h : i (ix1 n) = BitVec.ofNat 32 K.val) :
    wrapped i (ix2 n 0) = BitVec.ofNat 32 K.val := by
  pointwise [wrapped]
  rw [h]
  clear h
  revert K
  decide +kernel

/-- The row number of a code is inside the codebook. -/
theorem inside_apply (w : IVec S131072x1 32) (n : Fin 131072) (K : Fin 512) (h : w (ix2 n 0) = BitVec.ofNat 32 K.val) :
    inside w (ix1 n) = 1#1 := by
  pointwise [inside]
  rw [Finset.univ_unique, Finset.fold_singleton, Fin.default_eq_zero, h]
  clear h
  revert K
  decide +kernel

/-- The row that the number of a code takes. -/
theorem rows_apply (b : FVec Ideal S512x64 .f32) (i : IVec S131072 32) (n : Fin 131072) (d : Fin 64) (K : Fin 512) (h : i (ix1 n) = BitVec.ofNat 32 K.val) :
    rows b i (ix2 n d) = b (ix2 K d) := by
  have hw := wrapped_apply i n K h
  pointwise [rows]
  rw [inside_apply (wrapped i) n K hw]
  exact Routing.gather_row gather_S512x64_S131072x1_S131072x64_1_0_n_n_0_1_164 rfl rfl rfl rfl rfl b (wrapped i) n d K hw (by norm_num)

/-! ## Ties -/

/-- Whether a code is farther than the least distance `m` of its row, or is the one chosen. -/
def untiedOf (d : FVec Ideal S131072x512 .f32) (m : FVec Ideal S131072 .f32) (i : IVec S131072 32) : IVec S131072x512 1 :=
  ori (cmpf .ogt d (broadcastInDim S131072x512 ![0, 1] bcast_S131072x1_S131072x512_0_1 (broadcastInDim S131072x1 ![0] bcast_S131072_S131072x1_0 m)))
    (cmpi .eq (iotaInDim S131072x512 32 1) (broadcastInDim S131072x512 ![0, 1] bcast_S131072x1_S131072x512_0_1 (broadcastInDim S131072x1 ![0] bcast_S131072_S131072x1_0 i)))

/-- The least distance of each row. -/
def least (d : FVec Ideal S131072x512 .f32) : FVec Ideal S131072 .f32 :=
  Host.reduce FloatOps.minimumf d (constant S_ .f32 0x7F800000#32) reducesTo_S131072x512_S131072_d1 h_S_

/-- Whether a code is farther than the nearest one, or is the one chosen. -/
def untied (d : FVec Ideal S131072x512 .f32) : IVec S131072x512 1 := untiedOf d (least d) (nearest d)

/-- The least distance of a row as a fold. -/
theorem least_apply (d : FVec Ideal S131072x512 .f32) (n : Fin 131072) :
    least d (ix1 n) = Finset.univ.fold min (⊤ : EReal) (fun k => d (ix2 n k)) := by
  pointwise [least]
  rw [ofBits_inf]

/-- A test of two conditions, the second one an equality of words. -/
theorem of_ori (p : Prop) [Decidable p] (x y : BitVec 32) (h : IntOp.ori (BitVec.ofBool (decide p)) (IntOp.cmpi .eq x y) = 1#1) : p ∨ y = x := by
  by_cases hp : p
  · exact .inl hp
  · by_cases hxy : x = y
    · exact .inr hxy.symm
    · have e : IntOp.cmpi .eq x y = 0#1 := by
        show BitVec.ofBool (x == y) = 0#1
        rw [beq_false_of_ne hxy]; rfl
      rw [e, decide_eq_false hp] at h
      exact absurd h (by decide)

/-- Where the test is one, the code is farther than the least distance or chosen. -/
theorem untiedOf_apply (d : FVec Ideal S131072x512 .f32) (m : FVec Ideal S131072 .f32) (i : IVec S131072 32) (n : Fin 131072) (k : Fin 512)
    (h : untiedOf d m i (ix2 n k) = 1#1) : m (ix1 n) < d (ix2 n k) ∨ i (ix1 n) = BitVec.ofNat 32 k.val := by
  revert h
  pointwise [untiedOf]
  exact of_ori _ _ _

/-- It holds of a code farther than the least distance, or chosen. -/
theorem untied_apply (d : FVec Ideal S131072x512 .f32) (n : Fin 131072) (k : Fin 512) (h : untied d (ix2 n k) = 1#1) :
    Finset.univ.fold min (⊤ : EReal) (fun k => d (ix2 n k)) < d (ix2 n k) ∨ nearest d (ix1 n) = BitVec.ofNat 32 k.val := by
  rw [← least_apply]
  exact untiedOf_apply d (least d) (nearest d) n k h

/-- Where it holds of every code, the chosen one is the one nearest code. -/
theorem exists_nearest (r : FVec Ideal S131072x64 .f32) (b : FVec Ideal S512x64 .f32) (r' : Fin 131072 → Fin 64 → ℝ) (b' : Fin 512 → Fin 64 → ℝ)
    (hr : ∀ n d, r (ix2 n d) = (r' n d : EReal)) (hb : ∀ k d, b (ix2 k d) = (b' k d : EReal)) (hu : untied (Run.dist r b) = fun _ => 1#1) (n : Fin 131072) :
    ∃ K : Fin 512, Nearest (r' n) b' K ∧ nearest (Run.dist r b) (ix1 n) = BitVec.ofNat 32 K.val := by
  obtain ⟨K, hK, -⟩ := fold_min_attained (n := 511) fun k => Run.dist r b (ix2 n k)
  have hKc : nearest (Run.dist r b) (ix1 n) = BitVec.ofNat 32 K.val := by
    rcases untied_apply _ n K (congrFun hu _) with h | h
    · exact absurd (hK ▸ h) (lt_irrefl _)
    · exact h
  refine ⟨K, fun k hk => ?_, hKc⟩
  rcases untied_apply _ n k (congrFun hu _) with h | h
  · rw [show Finset.univ.fold min (⊤ : EReal) (fun k => Run.dist r b (ix2 n k)) = _ from hK, dist_real r b r' b' hr hb, dist_real r b r' b' hr hb, EReal.coe_lt_coe_iff] at h
    exact h
  · refine absurd (Fin.ext ?_) hk
    have e := congrArg BitVec.toNat (h.symm.trans hKc)
    rw [BitVec.toNat_ofNat, BitVec.toNat_ofNat] at e
    have := k.isLt; have := K.isLt
    omega

/-- The nearest code's entries are what the reference chooses. -/
theorem chosen_real (r : FVec Ideal S131072x64 .f32) (b : FVec Ideal S512x64 .f32) (b' : Fin 512 → Fin 64 → ℝ)
    (hb : ∀ k d, b (ix2 k d) = (b' k d : EReal)) (n : Fin 131072) (d : Fin 64) (K : Fin 512) (hK : nearest (Run.dist r b) (ix1 n) = BitVec.ofNat 32 K.val) :
    chosen r b (ix2 n d) = (b' K d : EReal) := by
  unfold chosen
  rw [rows_apply b _ n d K hK, hb]

/-! ## The results -/

/-- The first result's entries. -/
theorem straight_apply (x q0 q1 : FVec Ideal S131072x64 .f32) (x' p0 p1 : Fin 131072 → Fin 64 → ℝ) (hx : ∀ n d, x (ix2 n d) = (x' n d : EReal))
    (h0 : ∀ n d, q0 (ix2 n d) = (p0 n d : EReal)) (h1 : ∀ n d, q1 (ix2 n d) = (p1 n d : EReal)) (a : Fin 8) (b : Fin 16384) (d : Fin 64) :
    straight x q0 q1 (ix3 a b d) = ((p0 ⟨a.val * 16384 + b.val, by omega⟩ d + p1 ⟨a.val * 16384 + b.val, by omega⟩ d : ℝ) : EReal) := by
  pointwise [straight]
  rw [hx, h0, h1, ← EReal.coe_add, ← EReal.coe_sub, ← EReal.coe_add]
  congr 1
  ring

/-- A mean squared difference of real rows. -/
theorem meanSq_real (q r : FVec Ideal S131072x64 .f32) (q' r' : Fin 131072 → Fin 64 → ℝ) (hq : ∀ n d, q (ix2 n d) = (q' n d : EReal))
    (hr : ∀ n d, r (ix2 n d) = (r' n d : EReal)) (j : S_.Idx) :
    meanSq q r j = (((∑ n, ∑ d, (q' n d - r' n d) * (q' n d - r' n d)) / 8388608 : ℝ) : EReal) := by
  pointwise [meanSq]
  simp only [hq, hr, ← EReal.coe_mul, ← coe_sum, ← EReal.coe_sub]
  rw [ofBits_count]
  unfold Ideal.div
  rw [if_neg (by rw [← EReal.coe_zero]; exact fun e => by have := EReal.coe_injective e; norm_num at this), ← EReal.coe_inv, ← EReal.coe_mul, div_eq_mul_inv]

/-- The codebooks' entries. -/
theorem book0_apply (x : FVec Ideal S2x512x64 .f32) (k : Fin 512) (d : Fin 64) : book0 x (ix2 k d) = x (ix3 0 k d) := by
  pointwise [book0]
@[inherit_doc book0_apply] theorem book1_apply (x : FVec Ideal S2x512x64 .f32) (k : Fin 512) (d : Fin 64) : book1 x (ix2 k d) = x (ix3 1 k d) := by
  pointwise [book1]

section Results

variable (x : FVec Ideal S8x16384x64 .f32) (cb : FVec Ideal S2x512x64 .f32) (x' : Fin 131072 → Fin 64 → ℝ) (b : Fin 2 → Fin 512 → Fin 64 → ℝ)
  (hx : ∀ n d, flat x (ix2 n d) = (x' n d : EReal)) (hb : ∀ q k d, cb (ix3 q k d) = (b q k d : EReal))
  (hu0 : untied (Run.dist (flat x) (book0 cb)) = fun _ => 1#1) (hu1 : untied (Run.dist (left1 x cb) (book1 cb)) = fun _ => 1#1)

include hx hb hu0 hu1 in
/-- The two results in terms of each row's nearest codes. -/
theorem results : ∃ K0 K1 : Fin 131072 → Fin 512, (∀ n, Nearest (x' n) (b 0) (K0 n)) ∧ (∀ n, Nearest (fun d => x' n d - b 0 (K0 n) d) (b 1) (K1 n))
    ∧ (∀ (a : Fin 8) (e : Fin 16384) (d : Fin 64), quantised x cb (ix3 a e d)
        = ((b 0 (K0 ⟨a.val * 16384 + e.val, by omega⟩) d + b 1 (K1 ⟨a.val * 16384 + e.val, by omega⟩) d : ℝ) : EReal))
    ∧ (∀ j, loss x cb j = (((∑ n, D (x' n) (b 0) (K0 n)) / 8388608 + (∑ n, D (fun d => x' n d - b 0 (K0 n) d) (b 1) (K1 n)) / 8388608 : ℝ) : EReal)) := by
  have hb0 : ∀ k d, book0 cb (ix2 k d) = (b 0 k d : EReal) := fun k d => (book0_apply cb k d).trans (hb 0 k d)
  have hb1 : ∀ k d, book1 cb (ix2 k d) = (b 1 k d : EReal) := fun k d => (book1_apply cb k d).trans (hb 1 k d)
  choose K0 hK0 hc0 using exists_nearest (flat x) (book0 cb) x' (b 0) hx hb0 hu0
  have hq0 : ∀ n d, q0 x cb (ix2 n d) = (b 0 (K0 n) d : EReal) := fun n d => chosen_real (flat x) (book0 cb) (b 0) hb0 n d (K0 n) (hc0 n)
  have hl : ∀ n d, left1 x cb (ix2 n d) = ((x' n d - b 0 (K0 n) d : ℝ) : EReal) := fun n d => by
    rw [EReal.coe_sub, ← hx, ← hq0]; rfl
  choose K1 hK1 hc1 using exists_nearest (left1 x cb) (book1 cb) (fun n d => x' n d - b 0 (K0 n) d) (b 1) hl hb1 hu1
  have hq1 : ∀ n d, q1 x cb (ix2 n d) = (b 1 (K1 n) d : EReal) := fun n d => chosen_real (left1 x cb) (book1 cb) (b 1) hb1 n d (K1 n) (hc1 n)
  refine ⟨K0, K1, hK0, hK1, fun a e d => straight_apply _ _ _ x' _ _ hx hq0 hq1 a e d, fun j => ?_⟩
  pointwise [loss]
  rw [meanSq_real _ _ _ _ hq0 hx, meanSq_real _ _ _ _ hq1 hl, ← EReal.coe_add]
  simp only [D_eq]

end Results

end Cert.ReferenceIdeal.Alg

end
-- ==== Proof.Alg.Pre.lean ====
/- What the precondition says: every entry is real, and no row is tied. -/
module

public import proofs.«01_k».proof.Pre_finite_and_untied
public import proofs.«01_k».proof.Proof.Gen.Pre_finite_and_untied
public import proofs.«01_k».proof.Proof.Alg.Ref

@[expose] public section

set_option maxRecDepth 65536

noncomputable section

namespace Cert.Pre_finite_and_untied.Alg

open Cert.Pre_finite_and_untied Cert.Pre_finite_and_untied.Gen Cert.Rvq
open Idealize.ShloMosaic

/-- The precondition's choice of a code is the reference's. -/
theorem argmin_eq (d : FVec Ideal S131072x512 .f32) : fn_argmin (F := Ideal) d = ReferenceIdeal.Run.nearest d := rfl

/-- The precondition takes rows as the reference does. -/
theorem take_eq (b : FVec Ideal S512x64 .f32) (i : IVec S131072 32) : fn_take (F := Ideal) b i = ReferenceIdeal.Run.rows b i := rfl

/-- The precondition's four components. -/
theorem fn_eq (x : FVec Ideal S8x16384x64 .f32) (a : IVec S8x16384x2 32) (cb : FVec Ideal S2x512x64 .f32) :
    fn (F := Ideal) x a cb = (cmpf .olt (Host.absf x) (broadcastInDim S8x16384x64 ![] bcast_S_S8x16384x64 (constant S_ .f32 0x7F800000#32)),
      cmpf .olt (Host.absf cb) (broadcastInDim S2x512x64 ![] bcast_S_S2x512x64 (constant S_ .f32 0x7F800000#32)),
      ReferenceIdeal.Alg.untied (ReferenceIdeal.Run.dist (ReferenceIdeal.Run.flat x) (ReferenceIdeal.Run.book0 cb)),
      ReferenceIdeal.Alg.untied (ReferenceIdeal.Run.dist (ReferenceIdeal.Run.left1 x cb) (ReferenceIdeal.Run.book1 cb))) := by
  unfold fn fn_part1 fn_part2
  simp only [argmin_eq, take_eq]
  rfl

/-- An extended real whose absolute value is below the top is a real number. -/
theorem real_of_abs (x : EReal) (h : BitVec.ofBool (decide (max x (-x) < ⊤)) = 1#1) : x = (x.toReal : EReal) := by
  have h' : max x (-x) < ⊤ := by
    by_contra hn
    rw [decide_eq_false hn] at h
    exact absurd h (by decide)
  have h1 : x ≠ ⊤ := ((le_max_left _ _).trans_lt h').ne
  have h2 : x ≠ ⊥ := by
    rintro rfl
    exact absurd ((le_max_right _ _).trans_lt h') (by simp)
  exact (EReal.coe_toReal h1 h2).symm

/-- The first component says that the latents are real. -/
theorem finite_x (x : FVec Ideal S8x16384x64 .f32) (h : cmpf .olt (Host.absf x) (broadcastInDim S8x16384x64 ![] bcast_S_S8x16384x64 (constant S_ .f32 0x7F800000#32)) = fun _ => 1#1)
    (j : S8x16384x64.Idx) : x j = ((x j).toReal : EReal) := by
  have h := congrFun h j
  revert h
  pointwise
  rw [ofBits_inf]
  exact real_of_abs (x j)

/-- The second one says that the codebooks are. -/
theorem finite_cb (x : FVec Ideal S2x512x64 .f32) (h : cmpf .olt (Host.absf x) (broadcastInDim S2x512x64 ![] bcast_S_S2x512x64 (constant S_ .f32 0x7F800000#32)) = fun _ => 1#1)
    (j : S2x512x64.Idx) : x j = ((x j).toReal : EReal) := by
  have h := congrFun h j
  revert h
  pointwise
  rw [ofBits_inf]
  exact real_of_abs (x j)

end Cert.Pre_finite_and_untied.Alg

end
-- ==== Proof.Alg.Equal.lean ====
/- The kernel's two results are the reference's. -/
module

public import proofs.«01_k».proof.Proof.Alg.Values
public import proofs.«01_k».proof.Proof.Alg.Ref
public import proofs.«01_k».proof.Proof.Alg.Pre

@[expose] public section

set_option maxRecDepth 16384

noncomputable section

namespace Cert.Rvq

open Cert.KernelIdeal Cert.KernelIdeal.Gen Cert.KernelIdeal.Run
open Idealize.ShloMosaic Idealize.ShloMosaic.TcCoe

variable (m : (ℓ : Loc nD τ sig) → Buf (Elt Ideal) ℓ) (c : Dev nD)

/-- The latents as launched. -/
abbrev latents : Vec Ideal S8x16384x64 .f32 := m ((c.tc : Thread nD τ).loc main_arg0)
/-- The second argument as launched. -/
abbrev unread : Vec Ideal S8x16384x2 .i32 := m ((c.tc : Thread nD τ).loc main_arg1)
/-- The codebooks as launched. -/
abbrev codes : Vec Ideal S2x512x64 .f32 := m ((c.tc : Thread nD τ).loc main_arg2)

/-- The quantised rows the kernel leaves. -/
abbrev kernelRows : Vec Ideal S8x16384x64 .f32 := V4 m (outs m) c main_v3
/-- The loss the kernel leaves. -/
abbrev kernelLoss : Vec Ideal S_ .f32 := V4 m (outs m) c main_v4

/-- Under the precondition the kernel leaves the reference's two results. -/
theorem same (hf : (Cert.Pre_finite_and_untied.fn (F := Ideal) (latents m c) (unread m c) (codes m c)).1 = (fun _ => 1#1)
      ∧ (Cert.Pre_finite_and_untied.fn (F := Ideal) (latents m c) (unread m c) (codes m c)).2.1 = (fun _ => 1#1)
      ∧ (Cert.Pre_finite_and_untied.fn (F := Ideal) (latents m c) (unread m c) (codes m c)).2.2.1 = (fun _ => 1#1)
      ∧ (Cert.Pre_finite_and_untied.fn (F := Ideal) (latents m c) (unread m c) (codes m c)).2.2.2 = (fun _ => 1#1)) :
    kernelRows m c = Cert.ReferenceIdeal.Run.quantised (F := Ideal) (latents m c) (codes m c)
      ∧ kernelLoss m c = Cert.ReferenceIdeal.Run.loss (F := Ideal) (latents m c) (codes m c) := by
  rw [Cert.Pre_finite_and_untied.Alg.fn_eq] at hf
  obtain ⟨h1, h2, h3, h4⟩ := hf
  have hx0 := Cert.Pre_finite_and_untied.Alg.finite_x (latents m c) h1
  have hb0 := Cert.Pre_finite_and_untied.Alg.finite_cb (codes m c) h2
  let x : Fin 131072 → Fin 64 → ℝ := fun n d => EReal.toReal (Cert.ReferenceIdeal.Run.flat (F := Ideal) (latents m c) (ix2 n d))
  let b : Fin 2 → Fin 512 → Fin 64 → ℝ := fun q k d => EReal.toReal (codes m c (ix3 q k d))
  have hx : ∀ n d, Cert.ReferenceIdeal.Run.flat (F := Ideal) (latents m c) (ix2 n d) = (x n d : EReal) := fun n d => hx0 _
  have hb : ∀ q k d, codes m c (ix3 q k d) = (b q k d : EReal) := fun q k d => hb0 _
  obtain ⟨K0, K1, hK0, hK1, hq, hl⟩ := Cert.ReferenceIdeal.Alg.results (latents m c) (codes m c) x b hx hb h3 h4
  constructor
  · funext j
    have hj : j = ix3 (j 0) (j 1) (j 2) := by
      funext a; match a with | ⟨0, _⟩ => rfl | ⟨1, _⟩ => rfl | ⟨2, _⟩ => rfl
    rw [hj]
    exact (Cert.KernelIdeal.Alg.quantised_rows m c x b hx hb K0 K1 hK0 hK1 (j 0) (j 1) (j 2)).trans (hq (j 0) (j 1) (j 2)).symm
  · funext j
    exact (Cert.KernelIdeal.Alg.loss_cell m c x b hx hb K0 K1 hK0 hK1 j).trans (hl j).symm

end Cert.Rvq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_finite_and_untied
public import proofs.«01_k».proof.Proof.K.Run
public import proofs.«01_k».proof.Proof.KI.Run
public import proofs.«01_k».proof.Proof.RI.Run
public import proofs.«01_k».proof.Proof.Alg.Equal
public import Idealize.ShloMosaic.Adequacy
public import Idealize.ShloMosaic.Init

@[expose] public section

noncomputable section

namespace Cert.Proof

open Idealize.ShloMosaic Idealize.SL.Sem Cert.Kernel

/-- The reference runs, leaves its arguments alone and ends with no semaphore up. -/
theorem quietReference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run (Cert.ReferenceIdeal.defs (F := Ideal)) _ _).mono (fun r h => ⟨fun c => (h c).2.2, sem_eq_zero_of_no_sems rfl _⟩) (Cert.ReferenceIdeal.Run.run m g)

/-- The kernel and the reference leave the same two results. -/
theorem sameResults : Cert.algebraic_KernelIdeal_ReferenceIdeal_pre_finite_and_untied := by
  intro m g m' g' hp ha
  refine ⟨fun c => Cert.KernelIdeal.Gen.V4 m (Cert.KernelIdeal.Run.outs m) c (Proc.devRef .tc Cert.KernelIdeal.main_v3),
    fun c => Cert.KernelIdeal.Gen.V4 m (Cert.KernelIdeal.Run.outs m) c (Proc.devRef .tc Cert.KernelIdeal.main_v4), ?_, ?_⟩
  · refine (θ_run (Cert.KernelIdeal.defs (F := Ideal)) _ _).mono (fun r h c => ?_) (Cert.KernelIdeal.Run.run m g)
    have hr := fun (b : Ref Cert.KernelIdeal.sig .tc) hb => h.1 c (Proc.devRef .tc b) (Finset.mem_filter.mpr ⟨StableHlo.devRef_mem_tcRefs b, hb⟩)
    exact ⟨hr Cert.KernelIdeal.main_v3 (by decide), hr Cert.KernelIdeal.main_v4 (by decide),
      (hr Cert.KernelIdeal.main_arg0 (by decide)).trans (Cert.KernelIdeal.Gen.V4_main_arg0 m _ c),
      (hr Cert.KernelIdeal.main_arg1 (by decide)).trans (Cert.KernelIdeal.Gen.V4_main_arg1 m _ c),
      (hr Cert.KernelIdeal.main_arg2 (by decide)).trans (Cert.KernelIdeal.Gen.V4_main_arg2 m _ c)⟩
  · refine (θ_run (Cert.ReferenceIdeal.defs (F := Ideal)) _ _).mono (fun r h c => ?_) (Cert.ReferenceIdeal.Run.run m' g')
    obtain ⟨hq, hl, h0, h1, h2⟩ := h c
    obtain ⟨sq, sl⟩ := Cert.Rvq.same m c (hp c)
    obtain ⟨a0, a1, a2⟩ := ha c
    rw [a0, a2] at hq hl
    exact ⟨hq.trans sq.symm, hl.trans sl.symm, h0, h1, h2⟩

/-- Everything claimed. -/
theorem claim : Cert.Claim := ⟨Cert.Kernel.Gen.facts, Cert.KernelIdeal.Gen.facts, Cert.ReferenceIdeal.Gen.facts, Cert.Pre_finite_and_untied.Gen.facts,
  fun m g _ => Cert.Kernel.Run.frame m g, fun m g _ => Cert.KernelIdeal.Run.frame m g, fun m g _ => Cert.KernelIdeal.Run.frame m g,
  fun m g _ => quietReference m g, fun m g _ => quietReference m g, trivial, sameResults⟩

end Cert.Proof

end
